-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x5120 : Shape := ⟨3, ![1, 8192, 5120]⟩
abbrev S576x5120 : Shape := ⟨2, ![576, 5120]⟩
abbrev S5x40 : Shape := ⟨2, ![5, 40]⟩
abbrev S512 : Shape := ⟨1, ![512]⟩
abbrev S8192x5120 : Shape := ⟨2, ![8192, 5120]⟩
abbrev S512x1 : Shape := ⟨2, ![512, 1]⟩
abbrev S8192x512 : Shape := ⟨2, ![8192, 512]⟩
abbrev S8192x4 : Shape := ⟨2, ![8192, 4]⟩
abbrev S8192x64 : Shape := ⟨2, ![8192, 64]⟩
abbrev S8192x40 : Shape := ⟨2, ![8192, 40]⟩
abbrev S256x5120 : Shape := ⟨2, ![256, 5120]⟩
abbrev S256x512 : Shape := ⟨2, ![256, 512]⟩
abbrev S256x4 : Shape := ⟨2, ![256, 4]⟩
abbrev S256x64 : Shape := ⟨2, ![256, 64]⟩
abbrev S256x40 : Shape := ⟨2, ![256, 40]⟩
abbrev S1x1 : Shape := ⟨2, ![1, 1]⟩
abbrev S128x128 : Shape := ⟨2, ![128, 128]⟩
abbrev S64x128 : Shape := ⟨2, ![64, 128]⟩
abbrev S576x256 : Shape := ⟨2, ![576, 256]⟩
abbrev S256x128 : Shape := ⟨2, ![256, 128]⟩
abbrev S256 : Shape := ⟨1, ![256]⟩
abbrev S256x1 : Shape := ⟨2, ![256, 1]⟩
abbrev S256x255 : Shape := ⟨2, ![256, 255]⟩
abbrev S256x256 : Shape := ⟨2, ![256, 256]⟩
abbrev S512x256 : Shape := ⟨2, ![512, 256]⟩
abbrev S1x256 : Shape := ⟨2, ![1, 256]⟩
abbrev S128x256 : Shape := ⟨2, ![128, 256]⟩
abbrev S255x256 : Shape := ⟨2, ![255, 256]⟩
abbrev S4x256 : Shape := ⟨2, ![4, 256]⟩
abbrev S8x256 : Shape := ⟨2, ![8, 256]⟩
abbrev S256x8 : Shape := ⟨2, ![256, 8]⟩
abbrev S64x256 : Shape := ⟨2, ![64, 256]⟩

abbrev nBuf : Space → Nat
  | .hbm => 11
  | .vmem => 15
  | .smem => 1
  | _ => 0

abbrev bufTy : (tb : Table) → Fin (tcTables nBuf tb) → BufTy
  | .hbm, ⟨0, _⟩ => ⟨S1x8192x5120, .bf16⟩
  | .hbm, ⟨1, _⟩ => ⟨S576x5120, .fp8e4m3⟩
  | .hbm, ⟨2, _⟩ => ⟨S5x40, .f32⟩
  | .hbm, ⟨3, _⟩ => ⟨S512, .bf16⟩
  | .hbm, ⟨4, _⟩ => ⟨S8192x5120, .bf16⟩
  | .hbm, ⟨5, _⟩ => ⟨S512x1, .bf16⟩
  | .hbm, ⟨6, _⟩ => ⟨S8192x512, .fp8e4m3⟩
  | .hbm, ⟨7, _⟩ => ⟨S8192x4, .f32⟩
  | .hbm, ⟨8, _⟩ => ⟨S8192x64, .bf16⟩
  | .hbm, ⟨9, _⟩ => ⟨S8192x5120, .fp8e4m3⟩
  | .hbm, ⟨10, _⟩ => ⟨S8192x40, .f32⟩
  | .local _ .vmem, ⟨0, _⟩ => ⟨S256x5120, .bf16⟩
  | .local _ .vmem, ⟨1, _⟩ => ⟨S256x5120, .bf16⟩
  | .local _ .vmem, ⟨2, _⟩ => ⟨S576x5120, .fp8e4m3⟩
  | .local _ .vmem, ⟨3, _⟩ => ⟨S512x1, .bf16⟩
  | .local _ .vmem, ⟨4, _⟩ => ⟨S256x512, .fp8e4m3⟩
  | .local _ .vmem, ⟨5, _⟩ => ⟨S256x512, .fp8e4m3⟩
  | .local _ .vmem, ⟨6, _⟩ => ⟨S256x4, .f32⟩
  | .local _ .vmem, ⟨7, _⟩ => ⟨S256x4, .f32⟩
  | .local _ .vmem, ⟨8, _⟩ => ⟨S256x64, .bf16⟩
  | .local _ .vmem, ⟨9, _⟩ => ⟨S256x64, .bf16⟩
  | .local _ .vmem, ⟨10, _⟩ => ⟨S256x5120, .fp8e4m3⟩
  | .local _ .vmem, ⟨11, _⟩ => ⟨S256x5120, .fp8e4m3⟩
  | .local _ .vmem, ⟨12, _⟩ => ⟨S256x40, .f32⟩
  | .local _ .vmem, ⟨13, _⟩ => ⟨S256x40, .f32⟩
  | .local _ .vmem, ⟨14, _⟩ => ⟨S576x5120, .bf16⟩
  | .local _ .smem, ⟨0, _⟩ => ⟨S5x40, .f32⟩
  | _, _ => ⟨S1x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x8192x5120 : Shape := ⟨3, ![1, 8192, 5120]⟩
abbrev S576x5120 : Shape := ⟨2, ![576, 5120]⟩
abbrev S5x40 : Shape := ⟨2, ![5, 40]⟩
abbrev S512 : Shape := ⟨1, ![512]⟩
abbrev S8192x5120 : Shape := ⟨2, ![8192, 5120]⟩
abbrev S1x512 : Shape := ⟨2, ![1, 512]⟩
abbrev S8192x512 : Shape := ⟨2, ![8192, 512]⟩
abbrev S8192x4 : Shape := ⟨2, ![8192, 4]⟩
abbrev S8192x64 : Shape := ⟨2, ![8192, 64]⟩
abbrev S8192x40 : Shape := ⟨2, ![8192, 40]⟩
abbrev S8192x40x128 : Shape := ⟨3, ![8192, 40, 128]⟩
abbrev S8192x40x254 : Shape := ⟨3, ![8192, 40, 254]⟩
abbrev S8192x40x1 : Shape := ⟨3, ![8192, 40, 1]⟩
abbrev S5x1x40x1 : Shape := ⟨4, ![5, 1, 40, 1]⟩
abbrev S5x128x40x128 : Shape := ⟨4, ![5, 128, 40, 128]⟩
abbrev S640x5120 : Shape := ⟨2, ![640, 5120]⟩
abbrev S8192x576 : Shape := ⟨2, ![8192, 576]⟩
abbrev S8192 : Shape := ⟨1, ![8192]⟩
abbrev S8192x1 : Shape := ⟨2, ![8192, 1]⟩
abbrev S8192x4x128 : Shape := ⟨3, ![8192, 4, 128]⟩
abbrev S8192x4x254 : Shape := ⟨3, ![8192, 4, 254]⟩
abbrev S8192x4x1 : Shape := ⟨3, ![8192, 4, 1]⟩

abbrev nBuf : Space → Nat
  | .hbm => 11
  | .vmem => 9
  | .smem => 0
  | _ => 0

abbrev bufTy : (tb : Table) → Fin (tcTables nBuf tb) → BufTy
  | .hbm, ⟨0, _⟩ => ⟨S1x8192x5120, .bf16⟩
  | .hbm, ⟨1, _⟩ => ⟨S576x5120, .fp8e4m3⟩
  | .hbm, ⟨2, _⟩ => ⟨S5x40, .f32⟩
  | .hbm, ⟨3, _⟩ => ⟨S512, .bf16⟩
  | .hbm, ⟨4, _⟩ => ⟨S8192x5120, .bf16⟩
  | .hbm, ⟨5, _⟩ => ⟨S1x512, .bf16⟩
  | .hbm, ⟨6, _⟩ => ⟨S8192x512, .fp8e4m3⟩
  | .hbm, ⟨7, _⟩ => ⟨S8192x4, .f32⟩
  | .hbm, ⟨8, _⟩ => ⟨S8192x64, .bf16⟩
  | .hbm, ⟨9, _⟩ => ⟨S8192x5120, .fp8e4m3⟩
  | .hbm, ⟨10, _⟩ => ⟨S8192x40, .f32⟩
  | .local _ .vmem, ⟨0, _⟩ => ⟨S8192x5120, .bf16⟩
  | .local _ .vmem, ⟨1, _⟩ => ⟨S576x5120, .fp8e4m3⟩
  | .local _ .vmem, ⟨2, _⟩ => ⟨S5x40, .f32⟩
  | .local _ .vmem, ⟨3, _⟩ => ⟨S1x512, .bf16⟩
  | .local _ .vmem, ⟨4, _⟩ => ⟨S8192x512, .fp8e4m3⟩
  | .local _ .vmem, ⟨5, _⟩ => ⟨S8192x4, .f32⟩
  | .local _ .vmem, ⟨6, _⟩ => ⟨S8192x64, .bf16⟩
  | .local _ .vmem, ⟨7, _⟩ => ⟨S8192x5120, .fp8e4m3⟩
  | .local _ .vmem, ⟨8, _⟩ => ⟨S8192x40, .f32⟩
  | _, _ => ⟨S1x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Spec.lean ====
module

public import Idealize.ShloMosaic.Lib.Pointwise

@[expose] public section

set_option maxRecDepth 16384

noncomputable section

/-! # The quantiser on extended reals

The scalar functions both programs compute, and the one place where they differ in form: the kernel finds the power of two
below a number by counting the powers of two that are at most it, the reference by taking the greatest of them. -/

namespace Cert.Spec

open Idealize.ShloMosaic

/-- The constant 1/448 as the programs write it. -/
abbrev inv448 : EReal := Ideal.ofBits .f32 991054117#32

/-- The greatest power of two at most `v` among 2^-126 .. 2^127, infinity at infinity, 0 where none is. -/
def pow2 (v : EReal) : EReal :=
  if v = ⊤ then ⊤ else
    Finset.fold max ⊥ (fun k : Fin 254 => if (((2 : ℝ) ^ ((k.val : ℤ) - 126) : ℝ) : EReal) ≤ v
      then (((2 : ℝ) ^ ((k.val : ℤ) - 126) : ℝ) : EReal) else 0) Finset.univ

/-- The greatest absolute value of a group. -/
def amax (f : Fin 128 → EReal) : EReal := Finset.fold max ⊥ (fun j => FloatOps.absf (F := Ideal) (φ := .f32) (f j)) Finset.univ

/-- A group's scale from its greatest absolute value. -/
def scaleOf (a : EReal) : EReal := if a = 0 then 1 else pow2 (a * inv448) * Ideal.ofBits .f32 1073741824#32

/-- The factor a group is multiplied by before it is rounded. -/
def invOf (a : EReal) : EReal := if a = 0 then 1 else Ideal.div (Ideal.ofBits .f32 1056964608#32) (pow2 (a * inv448))

/-- An element's code, the factor given: the product clamped to ±448. -/
def codeOf (i x : EReal) : EReal := min (Ideal.ofBits .f32 1138753536#32) (max (Ideal.ofBits .f32 3286237184#32) (x * i))

/-- Entry `k` of the kernel's list of powers of two: 2^(k-126), infinity at 254. -/
def powerAt (k : ℕ) : EReal := if k = 254 then ⊤ else (((2 : ℝ) ^ ((k : ℤ) - 126) : ℝ) : EReal)

/-- What the binary32 pattern with exponent field `n`, sign and fraction zero, denotes. -/
theorem ofBits_exponent (n : Fin 256) : Ideal.ofBits .f32 (BitVec.ofNat 32 n.val * 8388608#32)
    = if n.val = 255 then ⊤ else if n.val = 0 then 0 else (((2 : ℝ) ^ ((n.val : ℤ) - 127) : ℝ) : EReal) := by
  have h : ∀ n : Fin 256, (BitVec.ofNat 32 n.val * 8388608#32).extractLsb' 31 1 = 0#1
      ∧ ((BitVec.ofNat 32 n.val * 8388608#32).extractLsb' 23 8).toNat = n.val
      ∧ ((BitVec.ofNat 32 n.val * 8388608#32).extractLsb' 0 23).toNat = 0 := by decide +kernel
  obtain ⟨h1, h2, h3⟩ := h n
  simp only [Ideal.ofBits, Ideal.ieee, h1, h2, h3]
  have hs : ((0#1 : BitVec 1) == 1#1) = false := rfl
  by_cases e1 : n.val = 255
  · simp [e1]
  · by_cases e2 : n.val = 0
    · simp [e2]
    · have e1' : ¬ n.val = 2 ^ 8 - 1 := by simpa using e1
      rw [if_neg e1', if_neg e2, if_neg e1, if_neg e2]
      congr 1
      simp only [hs, Bool.false_eq_true, if_false, one_mul, Nat.add_zero]
      have : ((2 ^ 23 : ℕ) : ℝ) = (2 : ℝ) ^ (23 : ℤ) := by norm_num
      rw [this, ← zpow_add₀ (by norm_num : (2 : ℝ) ≠ 0)]
      congr 1
      omega

/-- The kernel's word for entry `k` of its list. -/
theorem word_exponent (k : Fin 255) : IntOp.shli ArithUnit.vector (IntOp.addi (BitVec.ofNat 32 k.val) 1#32) 23#32
    = BitVec.ofNat 32 (k.val + 1) * 8388608#32 :=
  (by decide +kernel : ∀ k : Fin 255, IntOp.shli ArithUnit.vector (IntOp.addi (BitVec.ofNat 32 k.val) 1#32) 23#32
    = BitVec.ofNat 32 (k.val + 1) * 8388608#32) k

/-- The kernel's list of powers of two. -/
theorem ofBits_word (k : Fin 255) : Ideal.ofBits .f32 (IntOp.shli ArithUnit.vector (IntOp.addi (BitVec.ofNat 32 k.val) 1#32) 23#32)
    = powerAt k.val := by
  rw [word_exponent, ofBits_exponent ⟨k.val + 1, by omega⟩, powerAt]
  by_cases e : k.val = 254
  · simp [e]
  · have : ¬ k.val + 1 = 255 := by omega
    simp only [this, e, if_false, Nat.add_eq_zero_iff, one_ne_zero, and_false]
    congr 2
    push_cast; ring

/-- A sum of words each 0 or 2^23 is 2^23 times their number. -/
theorem fold_count {ι : Type} [DecidableEq ι] (s : Finset ι) (p : ι → Prop) [DecidablePred p] :
    Finset.fold IntOp.addi 0#32 (fun k => if p k then 0#32 else 8388608#32) s
      = BitVec.ofNat 32 (s.filter fun k => ¬ p k).card * 8388608#32 := by
  induction s using Finset.induction_on with
  | empty => simp
  | insert a s ha ih =>
    rw [Finset.fold_insert ha, ih, Finset.filter_insert]
    by_cases hp : p a
    · simp [hp, IntOp.addi]
    · rw [if_neg hp, if_pos hp, Finset.card_insert_of_notMem (by simp [ha]), IntOp.addi, Nat.add_comm, BitVec.ofNat_add,
        BitVec.add_mul]
      simp

/-- A property that holds of a number whenever it holds of a greater one holds below `N` of exactly the first `n`. -/
theorem exists_prefix (p : ℕ → Prop) (hp : ∀ a b, a ≤ b → p b → p a) (N : ℕ) :
    ∃ n ≤ N, ∀ k < N, (p k ↔ k < n) := by
  classical
  induction N with
  | zero => exact ⟨0, le_refl _, fun k hk => absurd hk (Nat.not_lt_zero _)⟩
  | succ N ih =>
    by_cases h : p N
    · exact ⟨N + 1, le_refl _, fun k hk => ⟨fun _ => hk, fun _ => hp k N (by omega) h⟩⟩
    · obtain ⟨n, hn, h'⟩ := ih
      refine ⟨n, by omega, fun k hk => ?_⟩
      by_cases e : k = N
      · subst e; exact ⟨fun q => absurd q h, fun q => by omega⟩
      · exact h' k (by omega)

theorem powerAt_mono {a b : ℕ} (hb : b < 255) (h : a ≤ b) : powerAt a ≤ powerAt b := by
  unfold powerAt
  by_cases e : b = 254
  · simp [e]
  · rw [if_neg e, if_neg (by omega)]
    exact EReal.coe_le_coe_iff.mpr (zpow_le_zpow_right₀ (by norm_num) (by omega))

/-- The kernel's count of the powers of two at most `v`, put in the exponent field, denotes the greatest of them. -/
theorem count_eq_pow2 (v : EReal) :
    Ideal.ofBits .f32 (Finset.fold IntOp.addi 0#32 (fun k : Fin 255 =>
      if v < Ideal.ofBits .f32 (IntOp.shli ArithUnit.vector (IntOp.addi (BitVec.ofNat 32 k.val) 1#32) 23#32)
        then 0#32 else 8388608#32) Finset.univ) = pow2 v := by
  simp only [ofBits_word]
  rw [fold_count]
  obtain ⟨n, hn, h⟩ := exists_prefix (fun k => k < 255 ∧ powerAt k ≤ v)
    (fun a b hab hb => ⟨by omega, (powerAt_mono hb.1 hab).trans hb.2⟩) 255
  have hcard : (Finset.univ.filter fun k : Fin 255 => ¬ v < powerAt k.val).card = n := by
    have : (Finset.univ.filter fun k : Fin 255 => ¬ v < powerAt k.val) = Finset.univ.filter fun k : Fin 255 => k.val < n := by
      ext k
      simp only [Finset.mem_filter, Finset.mem_univ, true_and, not_lt]
      rw [← h k.val k.isLt]
      exact ⟨fun q => ⟨k.isLt, q⟩, fun q => q.2⟩
    rw [this, Fin.card_filter_val_lt]
    omega
  rw [hcard, ofBits_exponent ⟨n, by omega⟩]
  have h' : ∀ k < 255, (powerAt k ≤ v ↔ k < n) := fun k hk => ⟨fun q => (h k hk).mp ⟨hk, q⟩, fun q => ((h k hk).mpr q).2⟩
  unfold pow2
  by_cases e : n = 255
  · have : v = ⊤ := by
      have := (h' 254 (by omega)).mpr (by omega)
      simpa [powerAt] using this
    simp [e, this]
  · have hv : v ≠ ⊤ := fun hv => by
      have := (h' 254 (by omega)).mp (by simp [hv])
      omega
    have hk : ∀ k : Fin 254, ((((2 : ℝ) ^ ((k.val : ℤ) - 126) : ℝ) : EReal) ≤ v ↔ k.val < n) := fun k => by
      have := h' k.val (by omega)
      rwa [powerAt, if_neg (by omega)] at this
    simp only [hk, hv, e, if_false]
    by_cases e0 : n = 0
    · simp only [e0, Nat.not_lt_zero, if_true, if_false]
      refine le_antisymm ?_ ?_
      · exact (Finset.le_fold_max _).mpr (Or.inr ⟨0, Finset.mem_univ _, le_refl _⟩)
      · exact (Finset.fold_max_le _).mpr ⟨bot_le, fun _ _ => le_refl _⟩
    · simp only [e0, if_false]
      refine le_antisymm ?_ ?_
      · refine (Finset.le_fold_max _).mpr (Or.inr ⟨⟨n - 1, by omega⟩, Finset.mem_univ _, ?_⟩)
        rw [if_pos (by simp; omega)]
        refine le_of_eq (congrArg _ (congrArg _ ?_))
        show ((n : ℤ) - 127) = ((n - 1 : ℕ) : ℤ) - 126
        omega
      · refine (Finset.fold_max_le _).mpr ⟨bot_le, fun k _ => ?_⟩
        by_cases q : k.val < n
        · rw [if_pos q]
          exact EReal.coe_le_coe_iff.mpr (zpow_le_zpow_right₀ (by norm_num) (by omega))
        · rw [if_neg q]
          exact EReal.coe_nonneg.mpr (by positivity)

/-- The reference's list of powers of two: `exp2 (k - 126)`. -/
theorem exp2_power (k : Fin 254) : FloatOps.exp2 (F := Ideal) (φ := .f32)
      (FloatOps.sitofp (F := Ideal) FTy.f32 (BitVec.ofNat 32 k.val) - Ideal.ofBits FTy.f32 1123811328#32 : EReal)
    = (((2 : ℝ) ^ ((k.val : ℤ) - 126) : ℝ) : EReal) := by
  have h1 : Ideal.ofBits FTy.f32 1123811328#32 = ((126 : ℝ) : EReal) := by
    simp [Ideal.ofBits, Ideal.ieee, -EReal.coe_mul]; norm_num
  have h2 : FloatOps.sitofp (F := Ideal) FTy.f32 (BitVec.ofNat 32 k.val) = (((k.val : ℝ)) : EReal) := by
    have : (BitVec.ofNat 32 k.val).toInt = (k.val : ℤ) :=
      (by decide +kernel : ∀ k : Fin 254, (BitVec.ofNat 32 k.val).toInt = (k.val : ℤ)) k
    show ((((BitVec.ofNat 32 k.val).toInt : ℝ)) : EReal) = _
    rw [this]; simp
  rw [h1, h2]
  show Ideal.exp2 (((k.val : ℝ) : EReal) - ((126 : ℝ) : EReal)) = _
  rw [← EReal.coe_sub]
  show ((Real.rpow 2 ((k.val : ℝ) - 126) : ℝ) : EReal) = _
  congr 1
  show (2 : ℝ) ^ ((k.val : ℝ) - 126) = _
  rw [← Real.rpow_intCast]
  congr 1
  push_cast; rfl

end Cert.Spec

end
-- ==== Proof.Block.lean ====
module
public import proofs.«01_k».proof.Proof.Spec
public import proofs.«01_k».proof.Proof.Gen.KernelIdeal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
/-!
# The kernel's work on one block of 256 tokens, as functions of whole vectors

A block is a `256 × 5120` slab of tokens `x`, the dequantised weight `S` (`576 × 5120`) and the gain `ga` (`512 × 1`).
The kernel unrolls forty groups of 128 channels and twenty chunks of 256 channels; here each is one function, applied
to the group's or the chunk's columns, and the unrolling is recursion on the number of chunks or groups done.
-/
namespace Cert.Block
open Cert.KernelIdeal Cert.KernelIdeal.Gen

/-- The `256 × 128` columns of `x` that start at column `n`. -/
def xcols (x : Vec Ideal S256x5120 .bf16) (n : ℕ) : Vec Ideal S256x128 .bf16 :=
  fun i => x (ix2 (i 0) ⟨(n + (i 1).val) % 5120, Nat.mod_lt _ (by decide)⟩)

/-- The `576 × 256` columns of the weight that start at column `n`. -/
def wcols (S : Vec Ideal S576x5120 .bf16) (n : ℕ) : Vec Ideal S576x256 .bf16 :=
  fun i => S (ix2 (i 0) ⟨(n + (i 1).val) % 5120, Nat.mod_lt _ (by decide)⟩)

/-- A load of 128 columns of the block is those columns. -/
theorem ld_xcols (x : Vec Ideal S256x5120 .bf16) (n : ℕ) (h) :
    View.ld (Val := Elt Ideal) (e' := .bf16) x (Rect.unit (s := S256x5120) ![0, n] ![256, 128] h) = xcols x n := by
  funext i
  refine (View.ld_apply _ _ _).trans (congrArg x (funext fun a => Fin.ext ?_))
  have hi : n + (i 1).val < 5120 := lt_of_lt_of_le (Nat.add_lt_add_left (i 1).isLt n) (h 1)
  refine (Rect.idx_unit_val _ _ _ _ a).trans ?_
  match a with
  | ⟨0, _⟩ => exact Nat.zero_add _
  | ⟨1, _⟩ => exact (Nat.mod_eq_of_lt hi).symm

/-- A load of 256 columns of the weight is those columns. -/
theorem ld_wcols (S : Vec Ideal S576x5120 .bf16) (n : ℕ) (h) :
    View.ld (Val := Elt Ideal) (e' := .bf16) S (Rect.unit (s := S576x5120) ![0, n] ![576, 256] h) = wcols S n := by
  funext i
  refine (View.ld_apply _ _ _).trans (congrArg S (funext fun a => Fin.ext ?_))
  have hi : n + (i 1).val < 5120 := lt_of_lt_of_le (Nat.add_lt_add_left (i 1).isLt n) (h 1)
  refine (Rect.idx_unit_val _ _ _ _ a).trans ?_
  match a with
  | ⟨0, _⟩ => exact Nat.zero_add _
  | ⟨1, _⟩ => exact (Nat.mod_eq_of_lt hi).symm

/-- The scale of every token in a group of 128 channels. -/
def scale (x : Vec Ideal S256x128 .bf16) : FVec Ideal S256x1 .f32 := k0_pay260 x
/-- The codes of a group of 128 channels. -/
def code (x : Vec Ideal S256x128 .bf16) : FVec Ideal S256x128 .fp8e4m3 := k0_pay264 (k0_pay256 x) (k0_pay261 x)
/-- The codes of a group times the group's scale. -/
def deq (x : Vec Ideal S256x128 .bf16) : FVec Ideal S256x128 .bf16 :=
  k0_pay265 (k0_pay256 x) (k0_pay260 x) (k0_pay261 x)

/-- One group's scales put into lane `n` of the running `256 × 128` table of scales. -/
def selStep (n : BitVec 32) (s : FVec Ideal S256x128 .f32) (x : Vec Ideal S256x128 .bf16) : FVec Ideal S256x128 .f32 :=
  k0_pay263 (iota .tc S256x128 32 [1] iota_S256x128_d1_w32) s (scale x) (broadcast S256x128 n)

/-- One chunk's matrix product added to the running `576 × 256` accumulator. -/
def accStep (a : FVec Ideal S576x256 .f32) (x y : Vec Ideal S256x128 .bf16) (w : Vec Ideal S576x256 .bf16) :
    FVec Ideal S576x256 .f32 :=
  have wc : FVec Ideal S576x256 .bf16 := w
  have xy : FVec Ideal S256x256 .bf16 :=
    concatenate S256x256 1 [⟨S256x128, deq x⟩, ⟨S256x128, deq y⟩] concatenates_S256x128_S256x128_S256x256_d1
  addf a (matmul dot_S576x256_S256x256_S576x256_1_1_0_0_n_n none wc xy (constant S576x256 .f32 0x00000000#32))

/-- The accumulator after `k` chunks. -/
def accAt (x : Vec Ideal S256x5120 .bf16) (S : Vec Ideal S576x5120 .bf16) : ℕ → FVec Ideal S576x256 .f32
  | 0 => k0_pay254
  | k + 1 => accStep (accAt x S k) (xcols x (256 * k)) (xcols x (256 * k + 128)) (wcols S (256 * k))

/-- The table of scales after `g` groups. -/
def selAt (x : Vec Ideal S256x5120 .bf16) : ℕ → FVec Ideal S256x128 .f32
  | 0 => k0_pay255
  | g + 1 => selStep (BitVec.ofNat 32 g) (selAt x g) (xcols x (128 * g))

/-- The scales' block: the first forty lanes of the table. -/
def xsOf (x : Vec Ideal S256x5120 .bf16) : FVec Ideal S256x40 .f32 :=
  extractStridedSlice S256x40 ![0, 0] (selAt x 40) slices_S256x128_o0_0_S256x40

/-- The last 64 rows of the accumulator, transposed. -/
def kpeOf (y : FVec Ideal S576x256 .f32) : FVec Ideal S256x64 .bf16 := k0_pay658 (k0_pay657 y)

/-- The first 512 rows of the accumulator, each token normalised by its root mean square, times the gain. -/
def rms (y : FVec Ideal S576x256 .f32) (ga : Vec Ideal S512x1 .bf16) : FVec Ideal S512x256 .f32 :=
  have c : FVec Ideal S512x256 .f32 := extractStridedSlice S512x256 ![0, 0] y slices_S576x256_o0_0_S512x256
  have s : FVec Ideal S256 .f32 := multiReduction .add [0] S256 (mulf c c) 0x00000000#32 reduces_S512x256_S256 (.inl rfl) rfl
  have ms : FVec Ideal S1x256 .f32 :=
    addf (mulf (shapeCast S1x256 s shapeCasts_S256_S1x256) (broadcast S1x256 (Scalar.ofBits .f32 0x3B000000#32)))
      (broadcast S1x256 (Scalar.ofBits .f32 0x358637BD#32))
  mulf (mulf c (broadcastTo S512x256 (rsqrt ms) broadcasts_S1x256_S512x256))
    (broadcastTo S512x256 (extf .f32 (shapeCast S512x1 ga shapeCasts_S512x1_S512x1) bitsLt_bf16_f32) broadcasts_S512x1_S512x256)

/-- The scale of every token in a latent group of 128 rows. -/
def lscale (v : FVec Ideal S128x256 .f32) : FVec Ideal S1x256 .f32 := k0_pay635 (absf v)
/-- The codes of a latent group, transposed. -/
def lcode (v : FVec Ideal S128x256 .f32) : FVec Ideal S256x128 .fp8e4m3 := k0_pay636 v (absf v)

/-- The four latent groups of 128 rows. -/
def lat0 (v : FVec Ideal S512x256 .f32) : FVec Ideal S128x256 .f32 :=
  extractStridedSlice S128x256 ![0, 0] v slices_S512x256_o0_0_S128x256
@[inherit_doc lat0] def lat1 (v : FVec Ideal S512x256 .f32) : FVec Ideal S128x256 .f32 :=
  extractStridedSlice S128x256 ![128, 0] v slices_S512x256_o128_0_S128x256
@[inherit_doc lat0] def lat2 (v : FVec Ideal S512x256 .f32) : FVec Ideal S128x256 .f32 :=
  extractStridedSlice S128x256 ![256, 0] v slices_S512x256_o256_0_S128x256
@[inherit_doc lat0] def lat3 (v : FVec Ideal S512x256 .f32) : FVec Ideal S128x256 .f32 :=
  extractStridedSlice S128x256 ![384, 0] v slices_S512x256_o384_0_S128x256

/-- The four latent groups' scales as a `256 × 4` block. -/
def csOf (v : FVec Ideal S512x256 .f32) : FVec Ideal S256x4 .f32 :=
  extractStridedSlice S256x4 ![0, 0]
    (transpose S256x8 [1, 0]
      (concatenate S8x256 0 [⟨S1x256, lscale (lat0 v)⟩, ⟨S1x256, lscale (lat1 v)⟩, ⟨S1x256, lscale (lat2 v)⟩,
        ⟨S1x256, lscale (lat3 v)⟩, ⟨S4x256, broadcast S4x256 (Scalar.ofBits .f32 0x00000000#32)⟩]
        concatenates_S1x256_S1x256_S1x256_S1x256_S4x256_S8x256_d0) transposes_S8x256_p1_0_S256x8)
    slices_S256x8_o0_0_S256x4

end Cert.Block
-- ==== Proof.Math.lean ====
module
public import proofs.«01_k».proof.Proof.Spec
@[expose] public section
noncomputable section
open Idealize.ShloMosaic
/-!
# The problem's mathematics, one token at a time

A token is a row `f` of 5120 numbers. Each group of 128 of them is quantised: its scale is a power of two, its codes
are the entries over the scale, clipped to ±448. The codes times their scales are multiplied with the dequantised
weight (each entry times the scale of its `128 × 128` block). The first 512 products are normalised by their root mean
square, multiplied with the gain and quantised again in four groups; the last 64 are returned as they are.
-/
namespace Cert.Math

/-- The entries of group `g` of a token. -/
def grp (f : Fin 5120 → EReal) (g : Fin 40) : Fin 128 → EReal := fun j => f ⟨128 * g.val + j.val, by omega⟩

/-- The group an entry lies in. -/
def grpOf (d : Fin 5120) : Fin 40 := ⟨d.val / 128, by omega⟩

/-- The scale of group `g` of a token. -/
def tokScale (f : Fin 5120 → EReal) (g : Fin 40) : EReal := Spec.scaleOf (Spec.amax (grp f g))

/-- The code of entry `d` of a token. -/
def tokCode (f : Fin 5120 → EReal) (d : Fin 5120) : EReal := Spec.codeOf (Spec.invOf (Spec.amax (grp f (grpOf d)))) (f d)

/-- Entry `d` of a token after quantising: its code times its group's scale. -/
def tokDeq (f : Fin 5120 → EReal) (d : Fin 5120) : EReal := tokCode f d * tokScale f (grpOf d)

/-- The dequantised weight: every entry times the scale of its `128 × 128` block. -/
def wdeq (w : Fin 576 → Fin 5120 → EReal) (ws : Fin 5 → Fin 40 → EReal) (o : Fin 576) (d : Fin 5120) : EReal :=
  w o d * ws ⟨o.val / 128, by omega⟩ (grpOf d)

/-- Row `o` of the dequantised weight times the quantised token. -/
def proj (W : Fin 576 → Fin 5120 → EReal) (f : Fin 5120 → EReal) (o : Fin 576) : EReal := ∑ d : Fin 5120, W o d * tokDeq f d

/-- The first 512 entries of a product, normalised by their root mean square and multiplied with the gain. -/
def latent (ga : Fin 512 → EReal) (y : Fin 576 → EReal) (i : Fin 512) : EReal :=
  y ⟨i.val, by omega⟩ * Ideal.rsqrt ((∑ k : Fin 512, y ⟨k.val, by omega⟩ * y ⟨k.val, by omega⟩) * Ideal.ofBits .f32 989855744#32
    + Ideal.ofBits .f32 897988541#32) * ga i

/-- The entries of group `g` of a latent vector. -/
def lgrp (v : Fin 512 → EReal) (g : Fin 4) : Fin 128 → EReal := fun j => v ⟨128 * g.val + j.val, by omega⟩

/-- The group an entry of the latent vector lies in. -/
def lgrpOf (d : Fin 512) : Fin 4 := ⟨d.val / 128, by omega⟩

/-- The scale of group `g` of a latent vector. -/
def latScale (v : Fin 512 → EReal) (g : Fin 4) : EReal := Spec.scaleOf (Spec.amax (lgrp v g))

/-- The code of entry `d` of a latent vector. -/
def latCode (v : Fin 512 → EReal) (d : Fin 512) : EReal := Spec.codeOf (Spec.invOf (Spec.amax (lgrp v (lgrpOf d)))) (v d)

end Cert.Math
-- ==== Proof.BlockAt.lean ====
module
public import proofs.«01_k».proof.Proof.Block
public import proofs.«01_k».proof.Proof.Math
@[expose] public section
set_option maxRecDepth 16384
noncomputable section
open Idealize.ShloMosaic Idealize.ShloMosaic.TcCoe Idealize.SL.Sem
/-!
# The functions of one block, at an index

Entry by entry, what the functions of `Block` compute is the mathematics of `Math` for the block's tokens.
-/
namespace Cert.BlockAt
open Cert.KernelIdeal Cert.KernelIdeal.Gen Cert.Block

/-- The bfloat16 and the float32 word of minus infinity both read as the bottom of the extended reals. -/
theorem ofBits_bot16 : Ideal.ofBits .bf16 65408#16 = (⊥ : EReal) := by simp [Ideal.ofBits, Ideal.ieee]
theorem ofBits_bot32 : Ideal.ofBits .f32 4286578688#32 = (⊥ : EReal) := by simp [Ideal.ofBits, Ideal.ieee]

/-- A group's scale. -/
theorem scale_apply (x : Vec Ideal S256x128 .bf16) (r : Fin 256) :
    scale x (ix2 r 0) = Spec.scaleOf (Spec.amax fun j => x (ix2 r j)) := by
  unfold scale
  pointwise [k0_pay260, k0_pay258, k0_pay259, k0_pay257, k0_pay256]
  rw [ofBits_bot16, Spec.count_eq_pow2]
  rfl

/-- A group's inverse scale. -/
theorem inv_apply (x : Vec Ideal S256x128 .bf16) (r : Fin 256) :
    k0_pay261 x (ix2 r 0) = Spec.invOf (Spec.amax fun j => x (ix2 r j)) := by
  pointwise [k0_pay261, k0_pay258, k0_pay259, k0_pay257, k0_pay256]
  rw [ofBits_bot16, Spec.count_eq_pow2]
  rfl

theorem code_of (x : Vec Ideal S256x128 .bf16) (v : FVec Ideal S256x1 .f32) (r : Fin 256) (j : Fin 128) :
    k0_pay264 (k0_pay256 x) v (ix2 r j) = Spec.codeOf (v (ix2 r 0)) (x (ix2 r j)) := by
  pointwise [k0_pay264, k0_pay256]
  rfl

/-- A group's codes. -/
theorem code_apply (x : Vec Ideal S256x128 .bf16) (r : Fin 256) (j : Fin 128) :
    code x (ix2 r j) = Spec.codeOf (Spec.invOf (Spec.amax fun j => x (ix2 r j))) (x (ix2 r j)) := by
  unfold code
  rw [code_of, inv_apply]

theorem deq_of (x : FVec Ideal S256x128 .bf16) (s v : FVec Ideal S256x1 .f32) (r : Fin 256) (j : Fin 128) :
    k0_pay265 x s v (ix2 r j) = k0_pay264 x v (ix2 r j) * s (ix2 r 0) := by
  unfold k0_pay265
  generalize k0_pay264 x v = q
  pointwise

/-- A group's codes times its scale. -/
theorem deq_apply (x : Vec Ideal S256x128 .bf16) (r : Fin 256) (j : Fin 128) :
    deq x (ix2 r j) = code x (ix2 r j) * scale x (ix2 r 0) := deq_of _ _ _ r j

/-- A latent group's scale. -/
theorem lscale_apply (v : FVec Ideal S128x256 .f32) (r : Fin 256) :
    lscale v (ix2 0 r) = Spec.scaleOf (Spec.amax fun j => v (ix2 j r)) := by
  unfold lscale
  pointwise [k0_pay632, k0_pay633, k0_pay634, k0_pay635]
  rw [ofBits_bot32, Spec.count_eq_pow2]
  rfl

/-- A latent group's codes. -/
theorem lcode_apply (v : FVec Ideal S128x256 .f32) (r : Fin 256) (j : Fin 128) :
    lcode v (ix2 r j) = Spec.codeOf (Spec.invOf (Spec.amax fun j => v (ix2 j r))) (v (ix2 j r)) := by
  unfold lcode
  pointwise [k0_pay632, k0_pay633, k0_pay634, k0_pay636]
  rw [ofBits_bot32, Spec.count_eq_pow2]
  rfl

/-- One step of the table of scales, at an index. -/
theorem selStep_apply (n : BitVec 32) (s : FVec Ideal S256x128 .f32) (x : Vec Ideal S256x128 .bf16) (r : Fin 256) (l : Fin 128) :
    selStep n s x (ix2 r l) = if BitVec.ofNat 32 l.val = n then scale x (ix2 r 0) else s (ix2 r l) := by
  unfold selStep
  generalize scale x = q
  pointwise [k0_pay263]
  by_cases h : BitVec.ofNat 32 l.val = n
  · simp [Scalar.select, IntOp.cmpi, h]
  · have e : (BitVec.ofNat 32 l.val == n) = false := beq_eq_false_iff_ne.mpr h
    simp [Scalar.select, IntOp.cmpi, e, h]

/-- One step of the accumulator, at an index. -/
theorem accStep_apply (a : FVec Ideal S576x256 .f32) (x y : Vec Ideal S256x128 .bf16) (w : Vec Ideal S576x256 .bf16)
    (o : Fin 576) (r : Fin 256) :
    accStep a x y w (ix2 o r) = a (ix2 o r) + ∑ j : Fin 256, (w (ix2 o j) : EReal) *
      (if h : j.val < 128 then deq x (ix2 r ⟨j.val, h⟩) else deq y (ix2 r ⟨j.val - 128, by omega⟩)) := by
  unfold accStep
  generalize deq x = p
  generalize deq y = q
  pointwise

/-- The last 64 rows, transposed, at an index. -/
theorem kpe_apply (y : FVec Ideal S576x256 .f32) (r : Fin 256) (j : Fin 64) :
    kpeOf y (ix2 r j) = y (ix2 ⟨512 + j.val, by omega⟩ r) := by
  unfold kpeOf
  pointwise [k0_pay657, k0_pay658]

/-- The normalised rows at an index. -/
theorem rms_apply (y : FVec Ideal S576x256 .f32) (ga : Vec Ideal S512x1 .bf16) (i : Fin 512) (r : Fin 256) :
    rms y ga (ix2 i r) = Math.latent (fun i => ga (ix2 i 0)) (fun o => y (ix2 o r)) i := by
  unfold rms
  pointwise
  rfl
/-- The latent groups at an index. -/
theorem lat0_apply (v : FVec Ideal S512x256 .f32) (j : Fin 128) (r : Fin 256) : lat0 v (ix2 j r) = v (ix2 ⟨j.val, by omega⟩ r) := by
  unfold lat0
  pointwise
theorem lat1_apply (v : FVec Ideal S512x256 .f32) (j : Fin 128) (r : Fin 256) : lat1 v (ix2 j r) = v (ix2 ⟨128 + j.val, by omega⟩ r) := by
  unfold lat1
  pointwise
theorem lat2_apply (v : FVec Ideal S512x256 .f32) (j : Fin 128) (r : Fin 256) : lat2 v (ix2 j r) = v (ix2 ⟨256 + j.val, by omega⟩ r) := by
  unfold lat2
  pointwise
theorem lat3_apply (v : FVec Ideal S512x256 .f32) (j : Fin 128) (r : Fin 256) : lat3 v (ix2 j r) = v (ix2 ⟨384 + j.val, by omega⟩ r) := by
  unfold lat3
  pointwise
/-- The latent scales' block, at an index. -/
theorem cs_apply (v : FVec Ideal S512x256 .f32) (r : Fin 256) (g : Fin 4) :
    csOf v (ix2 r g) = lscale (match g with | 0 => lat0 v | 1 => lat1 v | 2 => lat2 v | 3 => lat3 v) (ix2 0 r) := by
  unfold csOf
  generalize lat0 v = a
  generalize lat1 v = b
  generalize lat2 v = c
  generalize lat3 v = d
  pointwise
  match g with
  | 0 => exact dif_pos (by decide)
  | 1 => exact (dif_neg (by decide)).trans (dif_pos (by decide))
  | 2 => exact (dif_neg (by decide)).trans ((dif_neg (by decide)).trans (dif_pos (by decide)))
  | 3 => exact (dif_neg (by decide)).trans ((dif_neg (by decide)).trans ((dif_neg (by decide)).trans (dif_pos (by decide))))
/-- The scales' block is the table's first forty lanes. -/
theorem xs_apply (x : Vec Ideal S256x5120 .bf16) (r : Fin 256) (g : Fin 40) : xsOf x (ix2 r g) = selAt x 40 (ix2 r ⟨g.val, by omega⟩) := by
  unfold xsOf
  generalize selAt x 40 = s
  pointwise
end Cert.BlockAt
-- ==== Proof.Contents.lean ====
module
public import proofs.«01_k».proof.Proof.Block
@[expose] public section
set_option maxRecDepth 16384
noncomputable section
open Idealize.ShloMosaic Idealize.ShloMosaic.TcCoe Idealize.SL.Sem
/-!
# What the body leaves in each output block

At the first point the body also fills the scratch buffer; at the later ones it reads the scratch the point before
left. Either way the five output blocks are the functions of `Block` applied to the point's token block, the scratch and
the gain.
-/
namespace Cert.Contents
open Cert.KernelIdeal Cert.KernelIdeal.Gen Cert.Block
variable (m : (ℓ : Loc nD τ sig) → Buf (Elt Ideal) ℓ)

/-- A load after a list of stores is a load of what the stores leave. -/
theorem readCov_eq_ld {Val : EltTy → Type} [∀ e, Nonempty (Val e)] {sig : RefSig} {κ : Kind} {sp : Space} {s : Shape}
    {e : EltTy} (v : View sig κ sp s e) (L : List (View.Piece Val s e)) (r : Rect s) :
    v.readCov L r.toLoadRect = View.ld (View.canon L) r :=
  View.readCov_eq_canon' v L _

/-- The codes' block: group by group, the codes of the group's columns. -/
def xcOf (x : Vec Ideal S256x5120 .bf16) : FVec Ideal S256x5120 .fp8e4m3 := fun y =>
  code (xcols x (128 * ((y 1).val / 128))) (ix2 (y 0) ⟨(y 1).val % 128, Nat.mod_lt _ (by decide)⟩)

/-- The codes' block inside one group. -/
theorem xcOf_apply (x : Vec Ideal S256x5120 .bf16) (y : S256x5120.Idx) (z : S256x128.Idx) (n : ℕ)
    (h0 : (y 0).val = (z 0).val) (h1 : (y 1).val = n + (z 1).val) (l1 : (z 1).val < 128) (hn : n % 128 = 0) :
    code (xcols x n) z = xcOf x y := by
  have e : n = 128 * ((y 1).val / 128) := by omega
  have ez : z = ix2 (y 0) ⟨(y 1).val % 128, Nat.mod_lt _ (by decide)⟩ := by
    funext a; apply Fin.ext; match a with
    | ⟨0, _⟩ => exact h0.symm
    | ⟨1, _⟩ => show (z 1).val = (y 1).val % 128; omega
  unfold xcOf
  rw [← e]
  exact congrArg _ ez

/-- The latent codes' block: group by group, the codes of the group's rows. -/
def ccOf (v : FVec Ideal S512x256 .f32) : FVec Ideal S256x512 .fp8e4m3 := fun y =>
  (if (y 1).val < 128 then lcode (lat0 v) else if (y 1).val < 256 then lcode (lat1 v)
    else if (y 1).val < 384 then lcode (lat2 v) else lcode (lat3 v))
    (ix2 (y 0) ⟨(y 1).val % 128, Nat.mod_lt _ (by decide)⟩)

theorem lat_idx (y : S256x512.Idx) (z : S256x128.Idx) (n : ℕ) (h0 : (y 0).val = (z 0).val)
    (h1 : (y 1).val = n + (z 1).val) (l1 : (z 1).val < 128) (hn : n % 128 = 0) :
    z = ix2 (y 0) ⟨(y 1).val % 128, Nat.mod_lt _ (by decide)⟩ := by
  funext a; apply Fin.ext; match a with
  | ⟨0, _⟩ => exact h0.symm
  | ⟨1, _⟩ => show (z 1).val = (y 1).val % 128; omega

theorem ccOf_0 (v : FVec Ideal S512x256 .f32) (y : S256x512.Idx) (z : S256x128.Idx) (h0 : (y 0).val = (z 0).val)
    (h1 : (y 1).val = (z 1).val) (l1 : (z 1).val < 128) : lcode (lat0 v) z = ccOf v y := by
  unfold ccOf
  rw [if_pos (by omega)]
  exact congrArg _ (lat_idx y z 0 h0 (by omega) l1 rfl)
theorem ccOf_1 (v : FVec Ideal S512x256 .f32) (y : S256x512.Idx) (z : S256x128.Idx) (h0 : (y 0).val = (z 0).val)
    (h1 : (y 1).val = 128 + (z 1).val) (l1 : (z 1).val < 128) : lcode (lat1 v) z = ccOf v y := by
  unfold ccOf
  rw [if_neg (by omega), if_pos (by omega)]
  exact congrArg _ (lat_idx y z 128 h0 (by omega) l1 rfl)
theorem ccOf_2 (v : FVec Ideal S512x256 .f32) (y : S256x512.Idx) (z : S256x128.Idx) (h0 : (y 0).val = (z 0).val)
    (h1 : (y 1).val = 256 + (z 1).val) (l1 : (z 1).val < 128) : lcode (lat2 v) z = ccOf v y := by
  unfold ccOf
  rw [if_neg (by omega), if_neg (by omega), if_pos (by omega)]
  exact congrArg _ (lat_idx y z 256 h0 (by omega) l1 rfl)
theorem ccOf_3 (v : FVec Ideal S512x256 .f32) (y : S256x512.Idx) (z : S256x128.Idx) (h0 : (y 0).val = (z 0).val)
    (h1 : (y 1).val = 384 + (z 1).val) (l1 : (z 1).val < 128) : lcode (lat3 v) z = ccOf v y := by
  unfold ccOf
  rw [if_neg (by omega), if_neg (by omega), if_neg (by omega)]
  exact congrArg _ (lat_idx y z 384 h0 (by omega) l1 rfl)

/-- The latent codes' block, case B. -/
theorem out4_B (c : Dev nD) (t : Fin cfg0.N) (h : ¬ t.val % 32 = 0) : (outsAt0 m c t.val t.isLt).1
    = ccOf (rms (accAt (iblk m c 0 t) (outsAt0 m c (t.val - 1) (lt_of_le_of_lt (Nat.sub_le _ _) t.isLt)).2.2.2.2.2 20) (iblk m c 3 t)) := by
  rw [outsAt0_B m c t h]
  frame_out
  simp only [read_unread_whole, ld_xcols, ld_wcols]
  clear h
  funext y
  canon_tiles z h
  · exact ccOf_3 _ y z h0 h1 z1_lt
  · exact ccOf_2 _ y z h0 h1 z1_lt
  · exact ccOf_1 _ y z h0 h1 z1_lt
  · exact ccOf_0 _ y z h0 h1 z1_lt

/-- The latent scales' block, case B. -/
theorem out5_B (c : Dev nD) (t : Fin cfg0.N) (h : ¬ t.val % 32 = 0) : (outsAt0 m c t.val t.isLt).2.1
    = csOf (rms (accAt (iblk m c 0 t) (outsAt0 m c (t.val - 1) (lt_of_le_of_lt (Nat.sub_le _ _) t.isLt)).2.2.2.2.2 20) (iblk m c 3 t)) := by
  rw [outsAt0_B m c t h]
  frame_out
  simp only [read_unread_whole, ld_xcols, ld_wcols]
  rfl

/-- The rope rows' block, case B. -/
theorem out6_B (c : Dev nD) (t : Fin cfg0.N) (h : ¬ t.val % 32 = 0) : (outsAt0 m c t.val t.isLt).2.2.1
    = kpeOf (accAt (iblk m c 0 t) (outsAt0 m c (t.val - 1) (lt_of_le_of_lt (Nat.sub_le _ _) t.isLt)).2.2.2.2.2 20) := by
  rw [outsAt0_B m c t h]
  frame_out
  simp only [read_unread_whole, ld_xcols, ld_wcols]
  rfl

/-- The codes' block, case B. -/
theorem out7_B (c : Dev nD) (t : Fin cfg0.N) (h : ¬ t.val % 32 = 0) : (outsAt0 m c t.val t.isLt).2.2.2.1
    = xcOf (iblk m c 0 t) := by
  rw [outsAt0_B m c t h]
  frame_out
  simp only [read_unread_whole, ld_xcols, ld_wcols]
  clear h
  funext y
  canon_tiles z h
  all_goals first
    | exact xcOf_apply _ y z _ h0 h1 z1_lt rfl
    | exact xcOf_apply _ y z 0 h0 (h1.trans (Nat.zero_add _).symm) z1_lt rfl

/-- The scales' block, case B. -/
theorem out8_B (c : Dev nD) (t : Fin cfg0.N) (h : ¬ t.val % 32 = 0) : (outsAt0 m c t.val t.isLt).2.2.2.2.1
    = xsOf (iblk m c 0 t) := by
  rw [outsAt0_B m c t h]
  frame_out
  simp only [read_unread_whole, ld_xcols, ld_wcols]
  rfl

/-- The latent codes' block, case A. -/
theorem out4_A (c : Dev nD) (t : Fin cfg0.N) (h : t.val % 32 = 0) : (outsAt0 m c t.val t.isLt).1
    = ccOf (rms (accAt (iblk m c 0 t) (outsAt0 m c t.val t.isLt).2.2.2.2.2 20) (iblk m c 3 t)) := by
  rw [outsAt0_A m c t h]
  frame_open
  simp only [↓readCov_eq_ld, ↓ld_wcols, ↓View.read_writes_junk_eq_canon]
  generalize View.canon (Val := Elt Ideal) (s := S576x5120) (e := .bf16) _ = S
  simp (disch := decide) only [View.canon_cons_unit_lit', View.ld_unit_lit', View.readAt_eq_ld, Memref.IsWhole.read_unread,
    ld_xcols]
  clear h
  funext y
  canon_tiles z h
  · exact ccOf_3 _ y z h0 h1 z1_lt
  · exact ccOf_2 _ y z h0 h1 z1_lt
  · exact ccOf_1 _ y z h0 h1 z1_lt
  · exact ccOf_0 _ y z h0 h1 z1_lt

/-- The latent scales' block, case A. -/
theorem out5_A (c : Dev nD) (t : Fin cfg0.N) (h : t.val % 32 = 0) : (outsAt0 m c t.val t.isLt).2.1
    = csOf (rms (accAt (iblk m c 0 t) (outsAt0 m c t.val t.isLt).2.2.2.2.2 20) (iblk m c 3 t)) := by
  rw [outsAt0_A m c t h]
  frame_open
  simp only [↓readCov_eq_ld, ↓ld_wcols, ↓View.read_writes_junk_eq_canon]
  generalize View.canon (Val := Elt Ideal) (s := S576x5120) (e := .bf16) _ = S
  simp (disch := decide) only [View.canon_cons_unit_lit', View.ld_unit_lit', View.readAt_eq_ld, Memref.IsWhole.read_unread,
    ld_xcols]
  rfl

/-- The rope rows' block, case A. -/
theorem out6_A (c : Dev nD) (t : Fin cfg0.N) (h : t.val % 32 = 0) : (outsAt0 m c t.val t.isLt).2.2.1
    = kpeOf (accAt (iblk m c 0 t) (outsAt0 m c t.val t.isLt).2.2.2.2.2 20) := by
  rw [outsAt0_A m c t h]
  frame_open
  simp only [↓readCov_eq_ld, ↓ld_wcols, ↓View.read_writes_junk_eq_canon]
  generalize View.canon (Val := Elt Ideal) (s := S576x5120) (e := .bf16) _ = S
  simp (disch := decide) only [View.canon_cons_unit_lit', View.ld_unit_lit', View.readAt_eq_ld, Memref.IsWhole.read_unread,
    ld_xcols]
  rfl

/-- The codes' block, case A. -/
theorem out7_A (c : Dev nD) (t : Fin cfg0.N) (h : t.val % 32 = 0) : (outsAt0 m c t.val t.isLt).2.2.2.1
    = xcOf (iblk m c 0 t) := by
  rw [outsAt0_A m c t h]
  frame_out
  simp only [ld_xcols]
  clear h
  funext y
  canon_tiles z h
  all_goals first
    | exact xcOf_apply _ y z _ h0 h1 z1_lt rfl
    | exact xcOf_apply _ y z 0 h0 (h1.trans (Nat.zero_add _).symm) z1_lt rfl

/-- The scales' block, case A. -/
theorem out8_A (c : Dev nD) (t : Fin cfg0.N) (h : t.val % 32 = 0) : (outsAt0 m c t.val t.isLt).2.2.2.2.1
    = xsOf (iblk m c 0 t) := by
  rw [outsAt0_A m c t h]
  frame_out
  simp only [ld_xcols]
  rfl

/-- At a later point the scratch is what the point before left. -/
theorem scratch_B (c : Dev nD) (t : Fin cfg0.N) (h : ¬ t.val % 32 = 0) : (outsAt0 m c t.val t.isLt).2.2.2.2.2
    = (outsAt0 m c (t.val - 1) (lt_of_le_of_lt (Nat.sub_le _ _) t.isLt)).2.2.2.2.2 := by
  rw [outsAt0_B m c t h]
  dsimp only
  unfold sout0_B_0
  rfl
end Cert.Contents
-- ==== Proof.Scratch.lean ====
module
public import proofs.«01_k».proof.Proof.Block
@[expose] public section
set_option maxRecDepth 16384
noncomputable section
open Idealize.ShloMosaic Idealize.ShloMosaic.TcCoe Idealize.SL.Sem
/-!
# What the scratch buffer holds: the dequantised weight

The kernel's first point multiplies each `128 × 128` block of the weight by its scale, two hundred stores in all, and
leaves the products in a scratch buffer that the later points read.
-/
namespace Cert.Scratch
open Cert.KernelIdeal Cert.KernelIdeal.Gen
variable (m : (ℓ : Loc nD τ sig) → Buf (Elt Ideal) ℓ)

/-- The dequantised weight: every entry times the scale of its `128 × 128` block. -/
def wd (w : Vec Ideal S576x5120 .fp8e4m3) (ws : Vec Ideal S5x40 .f32) : Vec Ideal S576x5120 .bf16 :=
  fun y => ((w y : EReal) * (ws (ix2 ⟨(y 0).val / 128, by have : (y 0).val < 576 := (y 0).isLt; omega⟩
    ⟨(y 1).val / 128, by have : (y 1).val < 5120 := (y 1).isLt; omega⟩) : EReal) : EReal)

theorem wd_apply (w : Vec Ideal S576x5120 .fp8e4m3) (ws : Vec Ideal S5x40 .f32) (y : S576x5120.Idx) (i : S576x5120.Idx)
    (j : S5x40.Idx) (hi : ∀ a, (i a).val = (y a).val) (hj0 : (j 0).val = (y 0).val / 128) (hj1 : (j 1).val = (y 1).val / 128) :
    ((w i : EReal) * (ws j : EReal) : EReal) = wd w ws y := by
  have e : i = y := funext fun a => Fin.ext (hi a)
  have e' : j = ix2 ⟨(y 0).val / 128, by have : (y 0).val < 576 := (y 0).isLt; omega⟩
      ⟨(y 1).val / 128, by have : (y 1).val < 5120 := (y 1).isLt; omega⟩ := by
    funext a; apply Fin.ext; match a with
    | ⟨0, _⟩ => exact hj0
    | ⟨1, _⟩ => exact hj1
  rw [e, e']; rfl

/-- The product stored in a full `128 × 128` block is the dequantised weight there. -/
theorem tile128 (w : Vec Ideal S576x5120 .fp8e4m3) (ws : Vec Ideal S5x40 .f32) (r n : ℕ) (hr : r % 128 = 0) (hn : n % 128 = 0)
    (hw) (hs) (hf) (L : List (View.Piece (Elt Ideal) S576x5120 .bf16)) (hL : View.PiecesOf (wd w ws) L) :
    View.PiecesOf (wd w ws) ((⟨Rect.unit (s := S576x5120) ![r, n] ![128, 128] hw,
      k0_pay1 (F := Ideal) (View.ld (Val := Elt Ideal) (e' := .f32) ws (Rect.unit (s := S5x40) ![r / 128, n / 128] ![1, 1] hs) (Shape.Idx.first hf))
        (View.ld (Val := Elt Ideal) (e' := .fp8e4m3) w (Rect.unit (s := S576x5120) ![r, n] ![128, 128] hw))⟩ : View.Piece (Elt Ideal) S576x5120 .bf16) :: L) := by
  refine ⟨fun x => ?_, hL⟩
  have e : k0_pay1 (F := Ideal) (View.ld (Val := Elt Ideal) (e' := .f32) ws (Rect.unit (s := S5x40) ![r / 128, n / 128] ![1, 1] hs) (Shape.Idx.first hf))
        (View.ld (Val := Elt Ideal) (e' := .fp8e4m3) w (Rect.unit (s := S576x5120) ![r, n] ![128, 128] hw)) x
      = (((View.ld (Val := Elt Ideal) (e' := .fp8e4m3) w (Rect.unit (s := S576x5120) ![r, n] ![128, 128] hw) x : EReal) *
        (View.ld (Val := Elt Ideal) (e' := .f32) ws (Rect.unit (s := S5x40) ![r / 128, n / 128] ![1, 1] hs) (Shape.Idx.first hf) : EReal)) : EReal) := by
    generalize View.ld (Val := Elt Ideal) (e' := .fp8e4m3) w _ = W
    generalize View.ld (Val := Elt Ideal) (e' := .f32) ws _ _ = s
    idx_vars x
    pointwise [k0_pay1]
  refine e.trans (wd_apply w ws _ _ _ (fun a => ?_) ?_ ?_)
  · rfl
  · have hx : (x 0).val < 128 := (x 0).isLt
    refine (Rect.idx_unit_val _ _ _ _ 0).trans (Eq.trans ?_ (congrArg (· / 128) (Rect.idx_unit_val _ _ hw x 0).symm))
    show r / 128 + 0 = (r + (x 0).val) / 128
    omega
  · have hx : (x 1).val < 128 := (x 1).isLt
    refine (Rect.idx_unit_val _ _ _ _ 1).trans (Eq.trans ?_ (congrArg (· / 128) (Rect.idx_unit_val _ _ hw x 1).symm))
    show n / 128 + 0 = (n + (x 1).val) / 128
    omega

/-- The product stored in a `64 × 128` block of the last rows is the dequantised weight there. -/
theorem tile64 (w : Vec Ideal S576x5120 .fp8e4m3) (ws : Vec Ideal S5x40 .f32) (r n : ℕ) (hr : r % 128 = 0) (hn : n % 128 = 0)
    (hw) (hs) (hf) (L : List (View.Piece (Elt Ideal) S576x5120 .bf16)) (hL : View.PiecesOf (wd w ws) L) :
    View.PiecesOf (wd w ws) ((⟨Rect.unit (s := S576x5120) ![r, n] ![64, 128] hw,
      k0_pay217 (F := Ideal) (View.ld (Val := Elt Ideal) (e' := .f32) ws (Rect.unit (s := S5x40) ![r / 128, n / 128] ![1, 1] hs) (Shape.Idx.first hf))
        (View.ld (Val := Elt Ideal) (e' := .fp8e4m3) w (Rect.unit (s := S576x5120) ![r, n] ![64, 128] hw))⟩ : View.Piece (Elt Ideal) S576x5120 .bf16) :: L) := by
  refine ⟨fun x => ?_, hL⟩
  have e : k0_pay217 (F := Ideal) (View.ld (Val := Elt Ideal) (e' := .f32) ws (Rect.unit (s := S5x40) ![r / 128, n / 128] ![1, 1] hs) (Shape.Idx.first hf))
        (View.ld (Val := Elt Ideal) (e' := .fp8e4m3) w (Rect.unit (s := S576x5120) ![r, n] ![64, 128] hw)) x
      = (((View.ld (Val := Elt Ideal) (e' := .fp8e4m3) w (Rect.unit (s := S576x5120) ![r, n] ![64, 128] hw) x : EReal) *
        (View.ld (Val := Elt Ideal) (e' := .f32) ws (Rect.unit (s := S5x40) ![r / 128, n / 128] ![1, 1] hs) (Shape.Idx.first hf) : EReal)) : EReal) := by
    generalize View.ld (Val := Elt Ideal) (e' := .fp8e4m3) w _ = W
    generalize View.ld (Val := Elt Ideal) (e' := .f32) ws _ _ = s
    idx_vars x
    pointwise [k0_pay217]
  refine e.trans (wd_apply w ws _ _ _ (fun a => ?_) ?_ ?_)
  · rfl
  · have hx : (x 0).val < 64 := (x 0).isLt
    refine (Rect.idx_unit_val _ _ _ _ 0).trans (Eq.trans ?_ (congrArg (· / 128) (Rect.idx_unit_val _ _ hw x 0).symm))
    show r / 128 + 0 = (r + (x 0).val) / 128
    omega
  · have hx : (x 1).val < 128 := (x 1).isLt
    refine (Rect.idx_unit_val _ _ _ _ 1).trans (Eq.trans ?_ (congrArg (· / 128) (Rect.idx_unit_val _ _ hw x 1).symm))
    show n / 128 + 0 = (n + (x 1).val) / 128
    omega

set_option maxHeartbeats 2000000 in
/-- After the first point the scratch holds the dequantised weight. -/
theorem after_A (c : Dev nD) (t : Fin cfg0.N) (h : t.val % 32 = 0) :
    (outsAt0 m c t.val t.isLt).2.2.2.2.2 = wd (iblk m c 1 t) (iblk m c 2 t) := by
  funext y
  rw [outsAt0_A m c t h]
  dsimp only
  unfold sout0_A_0
  rw [View.read_writes_junk_eq_canon]
  refine View.canon_eq_of_allAt _ _ _ (scover0_A_0 ..) ?_
  refine fun p hp x e => e ▸ (View.PiecesOf.mem (G := wd (iblk m c 1 t) (iblk m c 2 t)) ?_ p hp x)
  frame_out
  iterate 40 refine tile64 _ _ _ _ rfl rfl _ _ _ _ ?_
  iterate 160 refine tile128 _ _ _ _ rfl rfl _ _ _ _ ?_
  trivial
end Cert.Scratch
-- ==== Proof.Row.lean ====
module
public import proofs.«01_k».proof.Proof.BlockAt
public import proofs.«01_k».proof.Proof.Contents
public import proofs.«01_k».proof.Proof.Scratch
@[expose] public section
set_option maxRecDepth 16384
noncomputable section
open Idealize.ShloMosaic Idealize.ShloMosaic.TcCoe Idealize.SL.Sem
/-!
# One block, token by token

Row `r` of a block of tokens is the token `row x r`; each of the block's five outputs is, at row `r`, the mathematics of
that token.
-/
namespace Cert.Row
open Cert.KernelIdeal Cert.KernelIdeal.Gen Cert.Block Cert.Contents Cert.BlockAt

/-- Token `r` of a block. -/
def row (x : Vec Ideal S256x5120 .bf16) (r : Fin 256) : Fin 5120 → EReal := fun d => x (ix2 r d)

/-- The entries of the dequantised weight. -/
def mat (S : Vec Ideal S576x5120 .bf16) (o : Fin 576) (d : Fin 5120) : EReal := S (ix2 o d)

theorem xcols_grp (x : Vec Ideal S256x5120 .bf16) (r : Fin 256) (g : Fin 40) :
    (fun j : Fin 128 => (xcols x (128 * g.val) (ix2 r j) : EReal)) = Math.grp (row x r) g := by
  funext j
  refine congrArg x (congrArg (ix2 r) (Fin.ext ?_))
  show (128 * g.val + j.val) % 5120 = 128 * g.val + j.val
  omega

theorem scale_row (x : Vec Ideal S256x5120 .bf16) (r : Fin 256) (g : Fin 40) :
    scale (xcols x (128 * g.val)) (ix2 r 0) = Math.tokScale (row x r) g :=
  (scale_apply _ r).trans (congrArg (fun f => Spec.scaleOf (Spec.amax f)) (xcols_grp x r g))

theorem code_row (x : Vec Ideal S256x5120 .bf16) (r : Fin 256) (g : Fin 40) (j : Fin 128) (d : Fin 5120)
    (hd : d.val = 128 * g.val + j.val) : code (xcols x (128 * g.val)) (ix2 r j) = Math.tokCode (row x r) d := by
  have hg : Math.grpOf d = g := Fin.ext (by show d.val / 128 = g.val; omega)
  refine (code_apply _ r j).trans ?_
  unfold Math.tokCode
  rw [hg]
  refine congrArg₂ (fun f a => Spec.codeOf (Spec.invOf (Spec.amax f)) a) (xcols_grp x r g) ?_
  refine congrArg x (congrArg (ix2 r) (Fin.ext ?_))
  show (128 * g.val + j.val) % 5120 = d.val
  omega

theorem deq_row (x : Vec Ideal S256x5120 .bf16) (r : Fin 256) (g : Fin 40) (j : Fin 128) (d : Fin 5120)
    (hd : d.val = 128 * g.val + j.val) : deq (xcols x (128 * g.val)) (ix2 r j) = Math.tokDeq (row x r) d := by
  have hg : Math.grpOf d = g := Fin.ext (by show d.val / 128 = g.val; omega)
  refine (deq_apply _ r j).trans ?_
  rw [code_row x r g j d hd, scale_row]
  unfold Math.tokDeq
  rw [hg]

/-- The codes' block. -/
theorem xc_row (x : Vec Ideal S256x5120 .bf16) (r : Fin 256) (d : Fin 5120) : xcOf x (ix2 r d) = Math.tokCode (row x r) d :=
  code_row x r ⟨d.val / 128, by omega⟩ ⟨d.val % 128, Nat.mod_lt _ (by decide)⟩ d (Nat.div_add_mod _ _).symm

/-- The table of scales after `k` groups: the groups done have their scale, the other lanes are zero. -/
theorem sel_row (x : Vec Ideal S256x5120 .bf16) (r : Fin 256) (l : Fin 128) : ∀ k : ℕ, k ≤ 40 → l.val < k →
    selAt x k (ix2 r l) = scale (xcols x (128 * l.val)) (ix2 r 0)
  | 0, _, h => absurd h (Nat.not_lt_zero _)
  | k + 1, hk, h => by
    refine (selStep_apply _ _ _ r l).trans ?_
    by_cases e : l.val = k
    · rw [if_pos (by rw [e]), e]
    · rw [if_neg (fun h' => e ?_)]
      · exact sel_row x r l k (by omega) (by omega)
      · have := congrArg BitVec.toNat h'
        simp only [BitVec.toNat_ofNat] at this
        omega

/-- The scales' block. -/
theorem xs_row (x : Vec Ideal S256x5120 .bf16) (r : Fin 256) (g : Fin 40) : xsOf x (ix2 r g) = Math.tokScale (row x r) g :=
  (xs_apply x r g).trans ((sel_row x r ⟨g.val, by omega⟩ 40 le_rfl g.isLt).trans (scale_row x r g))

/-- One term of the matrix product, with its position taken round the row. -/
def term (S : Vec Ideal S576x5120 .bf16) (x : Vec Ideal S256x5120 .bf16) (o : Fin 576) (r : Fin 256) (n : ℕ) : EReal :=
  mat S o ⟨n % 5120, Nat.mod_lt _ (by decide)⟩ * Math.tokDeq (row x r) ⟨n % 5120, Nat.mod_lt _ (by decide)⟩

theorem acc_zero (o : Fin 576) (r : Fin 256) : k0_pay254 (F := Ideal) (ix2 o r) = 0 := by
  pointwise [k0_pay254]

/-- The accumulator after `k` chunks is the sum of the first `256 k` terms. -/
theorem acc_row (S : Vec Ideal S576x5120 .bf16) (x : Vec Ideal S256x5120 .bf16) (o : Fin 576) (r : Fin 256) :
    ∀ k : ℕ, k ≤ 20 → accAt x S k (ix2 o r) = ∑ n ∈ Finset.range (256 * k), term S x o r n
  | 0, _ => acc_zero o r
  | k + 1, hk => by
    refine (accStep_apply _ _ _ _ o r).trans ?_
    rw [acc_row S x o r k (by omega), Nat.mul_succ, Finset.sum_range_add,
      ← Fin.sum_univ_eq_sum_range (fun n => term S x o r (256 * k + n)) 256]
    refine congrArg _ (Finset.sum_congr rfl fun j _ => ?_)
    unfold term
    refine congrArg₂ (· * ·) rfl ?_
    split
    · next h =>
      refine deq_row x r ⟨2 * k, by omega⟩ ⟨j.val, h⟩ _ ?_ |> Eq.trans (congrArg (fun n => deq (xcols x n) _) ?_)
      · show 256 * k = 128 * (2 * k); omega
      · show (256 * k + j.val) % 5120 = 128 * (2 * k) + j.val; omega
    · next h =>
      refine deq_row x r ⟨2 * k + 1, by omega⟩ ⟨j.val - 128, by omega⟩ _ ?_ |> Eq.trans (congrArg (fun n => deq (xcols x n) _) ?_)
      · show 256 * k + 128 = 128 * (2 * k + 1); omega
      · show (256 * k + j.val) % 5120 = 128 * (2 * k + 1) + (j.val - 128); omega

/-- The whole accumulator: the dequantised weight times the quantised token. -/
theorem acc_full (S : Vec Ideal S576x5120 .bf16) (x : Vec Ideal S256x5120 .bf16) (o : Fin 576) (r : Fin 256) :
    accAt x S 20 (ix2 o r) = Math.proj (mat S) (row x r) o := by
  rw [acc_row S x o r 20 le_rfl, ← Fin.sum_univ_eq_sum_range]
  unfold Math.proj
  refine Finset.sum_congr rfl fun d _ => ?_
  have e : (⟨d.val % 5120, Nat.mod_lt _ (by decide)⟩ : Fin 5120) = d := Fin.ext (Nat.mod_eq_of_lt d.isLt)
  unfold term
  rw [e]

/-- The latent vector of token `r`. -/
def lat (ga : Vec Ideal S512x1 .bf16) (S : Vec Ideal S576x5120 .bf16) (x : Vec Ideal S256x5120 .bf16) (r : Fin 256) :
    Fin 512 → EReal := Math.latent (fun i => ga (ix2 i 0)) (Math.proj (mat S) (row x r))

theorem rms_row (ga : Vec Ideal S512x1 .bf16) (S : Vec Ideal S576x5120 .bf16) (x : Vec Ideal S256x5120 .bf16) (r : Fin 256)
    (i : Fin 512) : rms (accAt x S 20) ga (ix2 i r) = lat ga S x r i :=
  (rms_apply _ ga i r).trans (congrArg (fun y => Math.latent _ y i) (funext fun o => acc_full S x o r))

/-- The rope rows' block. -/
theorem kpe_row (S : Vec Ideal S576x5120 .bf16) (x : Vec Ideal S256x5120 .bf16) (r : Fin 256) (j : Fin 64) :
    kpeOf (accAt x S 20) (ix2 r j) = Math.proj (mat S) (row x r) ⟨512 + j.val, by omega⟩ :=
  (kpe_apply _ r j).trans (acc_full S x _ r)

theorem latScale_row (v : FVec Ideal S512x256 .f32) (f : Fin 512 → EReal) (r : Fin 256) (hf : ∀ i, v (ix2 i r) = f i)
    (u : FVec Ideal S128x256 .f32) (g : Fin 4) (hu : ∀ j : Fin 128, u (ix2 j r) = v (ix2 ⟨128 * g.val + j.val, by omega⟩ r)) :
    lscale u (ix2 0 r) = Math.latScale f g :=
  (lscale_apply u r).trans (congrArg (fun f => Spec.scaleOf (Spec.amax f)) (funext fun j => (hu j).trans (hf _)))

theorem latCode_row (v : FVec Ideal S512x256 .f32) (f : Fin 512 → EReal) (r : Fin 256) (hf : ∀ i, v (ix2 i r) = f i)
    (u : FVec Ideal S128x256 .f32) (g : Fin 4) (hu : ∀ j : Fin 128, u (ix2 j r) = v (ix2 ⟨128 * g.val + j.val, by omega⟩ r))
    (d : Fin 512) (hd : d.val / 128 = g.val) :
    lcode u (ix2 r ⟨d.val % 128, Nat.mod_lt _ (by decide)⟩) = Math.latCode f d := by
  have hg : Math.lgrpOf d = g := Fin.ext hd
  refine (lcode_apply u r _).trans ?_
  unfold Math.latCode
  rw [hg]
  refine congrArg₂ (fun f a => Spec.codeOf (Spec.invOf (Spec.amax f)) a) (funext fun j => (hu j).trans (hf _)) ?_
  refine (hu _).trans ((hf _).trans (congrArg f (Fin.ext ?_)))
  show 128 * g.val + d.val % 128 = d.val
  omega

/-- The latent scales' block. -/
theorem cs_row (v : FVec Ideal S512x256 .f32) (f : Fin 512 → EReal) (r : Fin 256) (hf : ∀ i, v (ix2 i r) = f i) (g : Fin 4) :
    csOf v (ix2 r g) = Math.latScale f g := by
  refine (cs_apply v r g).trans (latScale_row v f r hf _ g fun j => ?_)
  match g with
  | 0 => exact (lat0_apply v j r).trans (congrArg (fun i => v (ix2 i r)) (Fin.ext (by show j.val = 128 * 0 + j.val; omega)))
  | 1 => exact lat1_apply v j r
  | 2 => exact lat2_apply v j r
  | 3 => exact lat3_apply v j r

/-- The latent codes' block. -/
theorem cc_row (v : FVec Ideal S512x256 .f32) (f : Fin 512 → EReal) (r : Fin 256) (hf : ∀ i, v (ix2 i r) = f i) (d : Fin 512) :
    ccOf v (ix2 r d) = Math.latCode f d := by
  unfold ccOf
  show (if d.val < 128 then lcode (lat0 v) else if d.val < 256 then lcode (lat1 v) else if d.val < 384 then lcode (lat2 v)
    else lcode (lat3 v)) (ix2 r ⟨d.val % 128, Nat.mod_lt _ (by decide)⟩) = _
  by_cases h0 : d.val < 128
  · rw [if_pos h0]
    exact latCode_row v f r hf _ 0 (fun j => (lat0_apply v j r).trans
      (congrArg (fun i => v (ix2 i r)) (Fin.ext (by show j.val = 128 * 0 + j.val; omega)))) d (by show d.val / 128 = 0; omega)
  · rw [if_neg h0]
    by_cases h1 : d.val < 256
    · rw [if_pos h1]
      exact latCode_row v f r hf _ 1 (fun j => lat1_apply v j r) d (by show d.val / 128 = 1; omega)
    · rw [if_neg h1]
      by_cases h2 : d.val < 384
      · rw [if_pos h2]
        exact latCode_row v f r hf _ 2 (fun j => lat2_apply v j r) d (by show d.val / 128 = 2; omega)
      · rw [if_neg h2]
        exact latCode_row v f r hf _ 3 (fun j => lat3_apply v j r) d (by show d.val / 128 = 3; omega)

end Cert.Row
-- ==== Proof.Result.lean ====
module
public import proofs.«01_k».proof.Proof.Math
public import proofs.«01_k».proof.KernelIdeal
@[expose] public section
set_option maxRecDepth 16384
noncomputable section
open Idealize.ShloMosaic Idealize.ShloMosaic.TcCoe Idealize.SL.Sem
/-!
# The five results

The five arrays both programs return, as the mathematics of `Math` applied to each of the 8192 tokens.
-/
namespace Cert.Result
open Cert.KernelIdeal

/-- Token `R`. -/
def token (X : Vec Ideal S1x8192x5120 .bf16) (R : Fin 8192) : Fin 5120 → EReal := fun d => X (ix3 0 R d)

/-- The dequantised weight. -/
def weight (w : Vec Ideal S576x5120 .fp8e4m3) (ws : Vec Ideal S5x40 .f32) : Fin 576 → Fin 5120 → EReal :=
  Math.wdeq (fun o d => w (ix2 o d)) (fun a b => ws (ix2 a b))

/-- The gain. -/
def gain (g : Vec Ideal S512 .bf16) : Fin 512 → EReal := fun i => g (ix1 i)

/-- The products of token `R` with the weight. -/
def products (X : Vec Ideal S1x8192x5120 .bf16) (w : Vec Ideal S576x5120 .fp8e4m3) (ws : Vec Ideal S5x40 .f32) (R : Fin 8192) :
    Fin 576 → EReal := Math.proj (weight w ws) (token X R)

/-- The normalised latent vector of token `R`. -/
def lat (X : Vec Ideal S1x8192x5120 .bf16) (w : Vec Ideal S576x5120 .fp8e4m3) (ws : Vec Ideal S5x40 .f32)
    (g : Vec Ideal S512 .bf16) (R : Fin 8192) : Fin 512 → EReal := Math.latent (gain g) (products X w ws R)

/-- The latent codes. -/
def cc (X : Vec Ideal S1x8192x5120 .bf16) (w : Vec Ideal S576x5120 .fp8e4m3) (ws : Vec Ideal S5x40 .f32)
    (g : Vec Ideal S512 .bf16) : Vec Ideal S8192x512 .fp8e4m3 := fun i => Math.latCode (lat X w ws g (i 0)) (i 1)

/-- The latent scales. -/
def cs (X : Vec Ideal S1x8192x5120 .bf16) (w : Vec Ideal S576x5120 .fp8e4m3) (ws : Vec Ideal S5x40 .f32)
    (g : Vec Ideal S512 .bf16) : Vec Ideal S8192x4 .f32 := fun i => Math.latScale (lat X w ws g (i 0)) (i 1)

/-- The rope rows. -/
def kpe (X : Vec Ideal S1x8192x5120 .bf16) (w : Vec Ideal S576x5120 .fp8e4m3) (ws : Vec Ideal S5x40 .f32) :
    Vec Ideal S8192x64 .bf16 := fun i => products X w ws (i 0) ⟨512 + (i 1).val, Nat.add_lt_add_left (i 1).isLt 512⟩

/-- The tokens' codes. -/
def xc (X : Vec Ideal S1x8192x5120 .bf16) : Vec Ideal S8192x5120 .fp8e4m3 := fun i => Math.tokCode (token X (i 0)) (i 1)

/-- The tokens' scales. -/
def xs (X : Vec Ideal S1x8192x5120 .bf16) : Vec Ideal S8192x40 .f32 := fun i => Math.tokScale (token X (i 0)) (i 1)

end Cert.Result
-- ==== Proof.Arrays.lean ====
module
public import proofs.«01_k».proof.Proof.Row
public import proofs.«01_k».proof.Proof.Result
public import proofs.«01_k».proof.Proof.Gen.KernelIdeal.Value
@[expose] public section
set_option maxRecDepth 16384
noncomputable section
open Idealize.ShloMosaic Idealize.ShloMosaic.TcCoe Idealize.SL.Sem
/-!
# The kernel's five arrays

What the kernel's run leaves in each of its five output arrays: the results of `Result`.
-/
namespace Cert.Arrays
open Cert.KernelIdeal Cert.KernelIdeal.Gen Cert.Block Cert.Contents

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0])

/-- The token that row `r` of point `t`'s block is. -/
def at' (t : Fin cfg0.N) (r : Fin 256) : Fin 8192 :=
  ⟨t.val * 256 + r.val, by have h : t.val < 32 := t.isLt.trans_eq N_0; omega⟩

abbrev X (c : Dev nD) : Vec Ideal S1x8192x5120 .bf16 := m ((c : Thread nD τ).loc main_arg0)
abbrev W (c : Dev nD) : Vec Ideal S576x5120 .fp8e4m3 := m ((c : Thread nD τ).loc main_arg1)
abbrev Ws (c : Dev nD) : Vec Ideal S5x40 .f32 := m ((c : Thread nD τ).loc main_arg2)
abbrev Ga (c : Dev nD) : Vec Ideal S512 .bf16 := m ((c : Thread nD τ).loc main_arg3)

theorem blk0 (c : Dev nD) (t : Fin cfg0.N) (r : Fin 256) : Row.row (iblk m c 0 t) r = Result.token (X m c) (at' t r) := by
  funext d
  unfold Row.row Result.token
  blk_simp [iblk, idx t]
  entry_read
  pointwise
  blk_ext [at', idx t]

theorem blk1 (c : Dev nD) (t : Fin cfg0.N) (o : Fin 576) (d : Fin 5120) : iblk m c 1 t (ix2 o d) = W m c (ix2 o d) := by
  blk_ext [iblk, V, idx t]

theorem blk2 (c : Dev nD) (t : Fin cfg0.N) (o : Fin 5) (d : Fin 40) : iblk m c 2 t (ix2 o d) = Ws m c (ix2 o d) := by
  blk_ext [iblk, V, idx t]

theorem blk3 (c : Dev nD) (t : Fin cfg0.N) : (fun i : Fin 512 => (iblk m c 3 t (ix2 i 0) : EReal)) = Result.gain (Ga m c) := by
  funext i
  unfold Result.gain
  blk_simp [iblk, idx t]
  entry_read
  pointwise
  blk_ext [at', idx t]

theorem mat_wd (c : Dev nD) (t : Fin cfg0.N) :
    Row.mat (Scratch.wd (iblk m c 1 t) (iblk m c 2 t)) = Result.weight (W m c) (Ws m c) := by
  funext o d
  unfold Row.mat
  refine (Scratch.wd_apply _ _ (ix2 o d) (ix2 o d) (ix2 ⟨o.val / 128, by omega⟩ ⟨d.val / 128, by omega⟩) (fun _ => rfl) rfl rfl).symm.trans ?_
  unfold Result.weight Math.wdeq Math.grpOf
  exact congrArg₂ (· * ·) (blk1 m c t o d) (blk2 m c t _ _)

/-- The dequantised weight is in the scratch after every point. -/
theorem scratch (c : Dev nD) : ∀ (n : ℕ) (h : n < cfg0.N), Row.mat (outsAt0 m c n h).2.2.2.2.2 = Result.weight (W m c) (Ws m c)
  | 0, h => by
    rw [Scratch.after_A m c ⟨0, h⟩ rfl]
    exact mat_wd m c ⟨0, h⟩
  | n + 1, h => by
    have h32 : n + 1 < 32 := by rwa [show cfg0.N = 32 from N_0] at h
    rw [scratch_B m c ⟨n + 1, h⟩ (by show ¬ (n + 1) % 32 = 0; omega)]
    exact scratch c n _

/-- What a point leaves in its five output blocks, over the scratch it multiplied with. -/
theorem outs (c : Dev nD) (t : Fin cfg0.N) : ∃ S : Vec Ideal S576x5120 .bf16, Row.mat S = Result.weight (W m c) (Ws m c)
    ∧ (outsAt0 m c t.val t.isLt).1 = ccOf (rms (accAt (iblk m c 0 t) S 20) (iblk m c 3 t))
    ∧ (outsAt0 m c t.val t.isLt).2.1 = csOf (rms (accAt (iblk m c 0 t) S 20) (iblk m c 3 t))
    ∧ (outsAt0 m c t.val t.isLt).2.2.1 = kpeOf (accAt (iblk m c 0 t) S 20)
    ∧ (outsAt0 m c t.val t.isLt).2.2.2.1 = xcOf (iblk m c 0 t)
    ∧ (outsAt0 m c t.val t.isLt).2.2.2.2.1 = xsOf (iblk m c 0 t) := by
  by_cases h : t.val % 32 = 0
  · exact ⟨_, scratch m c t.val t.isLt, out4_A m c t h, out5_A m c t h, out6_A m c t h, out7_A m c t h, out8_A m c t h⟩
  · exact ⟨_, scratch m c (t.val - 1) _, out4_B m c t h, out5_B m c t h, out6_B m c t h, out7_B m c t h, out8_B m c t h⟩

theorem lat_row (c : Dev nD) (t : Fin cfg0.N) (S : Vec Ideal S576x5120 .bf16) (hS : Row.mat S = Result.weight (W m c) (Ws m c))
    (r : Fin 256) (i : Fin 512) : rms (accAt (iblk m c 0 t) S 20) (iblk m c 3 t) (ix2 i r)
      = Result.lat (X m c) (W m c) (Ws m c) (Ga m c) (at' t r) i := by
  refine (Row.rms_row _ S _ r i).trans ?_
  unfold Row.lat
  rw [hS, blk0, blk3]
  rfl

theorem point4 (c : Dev nD) (t : Fin cfg0.N) (r : Fin 256) (d : Fin 512) : (outsAt0 m c t.val t.isLt).1 (ix2 r d)
    = Result.cc (X m c) (W m c) (Ws m c) (Ga m c) (ix2 (at' t r) d) := by
  obtain ⟨S, hS, h, -⟩ := outs m c t
  rw [h]
  exact Row.cc_row _ _ r (lat_row m c t S hS r) d

theorem point5 (c : Dev nD) (t : Fin cfg0.N) (r : Fin 256) (d : Fin 4) : (outsAt0 m c t.val t.isLt).2.1 (ix2 r d)
    = Result.cs (X m c) (W m c) (Ws m c) (Ga m c) (ix2 (at' t r) d) := by
  obtain ⟨S, hS, -, h, -⟩ := outs m c t
  rw [h]
  exact Row.cs_row _ _ r (lat_row m c t S hS r) d

theorem point6 (c : Dev nD) (t : Fin cfg0.N) (r : Fin 256) (d : Fin 64) : (outsAt0 m c t.val t.isLt).2.2.1 (ix2 r d)
    = Result.kpe (X m c) (W m c) (Ws m c) (ix2 (at' t r) d) := by
  obtain ⟨S, hS, -, -, h, -⟩ := outs m c t
  rw [h]
  refine (Row.kpe_row S _ r d).trans ?_
  rw [hS, blk0]
  rfl

theorem point7 (c : Dev nD) (t : Fin cfg0.N) (r : Fin 256) (d : Fin 5120) : (outsAt0 m c t.val t.isLt).2.2.2.1 (ix2 r d)
    = Result.xc (X m c) (ix2 (at' t r) d) := by
  obtain ⟨S, hS, -, -, -, h, -⟩ := outs m c t
  rw [h]
  refine (Row.xc_row _ r d).trans ?_
  rw [blk0]
  rfl

theorem point8 (c : Dev nD) (t : Fin cfg0.N) (r : Fin 256) (d : Fin 40) : (outsAt0 m c t.val t.isLt).2.2.2.2.1 (ix2 r d)
    = Result.xs (X m c) (ix2 (at' t r) d) := by
  obtain ⟨S, hS, -, -, -, -, h⟩ := outs m c t
  rw [h]
  refine (Row.xs_row _ r d).trans ?_
  rw [blk0]
  rfl

theorem final4 (c : Dev nD) : (dats m 0 c).arrAt 4 cfg0.N = Result.cc (X m c) (W m c) (Ws m c) (Ga m c) := by
  refine (dats m 0 c).arrAt_eq_of_covers 4 _ (by decide +kernel) fun t _ y => ?_
  blk_simp
  rw [after0_4]
  idx_vars y
  refine (point4 m c t _ _).trans ?_
  blk_ext [at', idx t]

theorem final5 (c : Dev nD) : (dats m 0 c).arrAt 5 cfg0.N = Result.cs (X m c) (W m c) (Ws m c) (Ga m c) := by
  refine (dats m 0 c).arrAt_eq_of_covers 5 _ (by decide +kernel) fun t _ y => ?_
  blk_simp
  rw [after0_5]
  idx_vars y
  refine (point5 m c t _ _).trans ?_
  blk_ext [at', idx t]

theorem final6 (c : Dev nD) : (dats m 0 c).arrAt 6 cfg0.N = Result.kpe (X m c) (W m c) (Ws m c) := by
  refine (dats m 0 c).arrAt_eq_of_covers 6 _ (by decide +kernel) fun t _ y => ?_
  blk_simp
  rw [after0_6]
  idx_vars y
  refine (point6 m c t _ _).trans ?_
  blk_ext [at', idx t]

theorem final7 (c : Dev nD) : (dats m 0 c).arrAt 7 cfg0.N = Result.xc (X m c) := by
  refine (dats m 0 c).arrAt_eq_of_covers 7 _ (by decide +kernel) fun t _ y => ?_
  blk_simp
  rw [after0_7]
  idx_vars y
  refine (point7 m c t _ _).trans ?_
  blk_ext [at', idx t]

theorem final8 (c : Dev nD) : (dats m 0 c).arrAt 8 cfg0.N = Result.xs (X m c) := by
  refine (dats m 0 c).arrAt_eq_of_covers 8 _ (by decide +kernel) fun t _ y => ?_
  blk_simp
  rw [after0_8]
  idx_vars y
  refine (point8 m c t _ _).trans ?_
  blk_ext [at', idx t]

/-- The kernel's run: the five results are in the five output arrays, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v2_0) = Result.cc (X m c) (W m c) (Ws m c) (Ga m c)
      ∧ r.2.mem ((c : Thread nD τ).loc main_v2_1) = Result.cs (X m c) (W m c) (Ws m c) (Ga m c)
      ∧ r.2.mem ((c : Thread nD τ).loc main_v2_2) = Result.kpe (X m c) (W m c) (Ws m c)
      ∧ r.2.mem ((c : Thread nD τ).loc main_v2_3) = Result.xc (X m c)
      ∧ r.2.mem ((c : Thread nD τ).loc main_v2_4) = Result.xs (X m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run_blocks m ρ)
  obtain ⟨h4, h5, h6, h7, h8, h⟩ := h c
  exact ⟨h4.trans (final4 m c), h5.trans (final5 m c), h6.trans (final6 m c), h7.trans (final7 m c), h8.trans (final8 m c), h⟩

end Cert.Arrays
-- ==== Proof.RefAt.lean ====
module
public import proofs.«01_k».proof.Proof.Math
public import proofs.«01_k».proof.Proof.Gen.ReferenceIdeal.Value
@[expose] public section
set_option maxRecDepth 16384
noncomputable section
open Idealize.ShloMosaic Idealize.ShloMosaic.TcCoe Idealize.SL.Sem
/-!
# The reference's values at an index

Entry by entry, what the reference's one block of code computes is the mathematics of `Math`.
-/
namespace Cert.RefAt
open Cert.ReferenceIdeal Cert.ReferenceIdeal.Gen

theorem ofBits_bot32 : Ideal.ofBits .f32 4286578688#32 = (⊥ : EReal) := by simp [Ideal.ofBits, Ideal.ieee]
theorem ofBits_top32 : Ideal.ofBits .f32 2139095040#32 = (⊤ : EReal) := by simp [Ideal.ofBits, Ideal.ieee]

/-- Token `R`. -/
def row (x : Vec Ideal S8192x5120 .bf16) (R : Fin 8192) : Fin 5120 → EReal := fun d => x (ix2 R d)

theorem pay7_apply (x : Vec Ideal S8192x5120 .bf16) (R : Fin 8192) (g : Fin 40) (j : Fin 128) :
    k0_pay7 x (ix3 R g j) = Math.grp (row x R) g j := by
  pointwise [k0_pay7]
  exact congrArg x (congrArg (ix2 R) (Fin.ext (congrArg (· + j.val) (Nat.mul_comm _ _))))

theorem pay8_of (q : FVec Ideal S8192x40x128 .f32) (R : Fin 8192) (g : Fin 40) :
    multiReduction .maximumf [2] S8192x40 (absf q) 0xFF800000#32 reduces_S8192x40x128_S8192x40 (.inl rfl) rfl (ix2 R g)
      = Spec.amax fun j => q (ix3 R g j) := by
  pointwise
  rw [ofBits_bot32]
  rfl

theorem pay8_apply (x : Vec Ideal S8192x5120 .bf16) (R : Fin 8192) (g : Fin 40) :
    k0_pay8 x (ix2 R g) = Spec.amax (Math.grp (row x R) g) := by
  unfold k0_pay8
  exact (pay8_of _ R g).trans (congrArg Spec.amax (funext fun j => pay7_apply x R g j))

/-- The greatest power of two at most `a / 448`, as the reference writes it. -/
def power (a : FVec Ideal S8192x40 .f32) : FVec Ideal S8192x40 .f32 :=
  have v7 : FVec Ideal S8192x40 .f32 := mulf a (broadcast S8192x40 (Scalar.ofBits .f32 0x3B124925#32))
  have v9 : FVec Ideal S8192x40x254 .f32 := sitofp .f32 (iota .tc S8192x40x254 32 [2] iota_S8192x40x254_d2_w32)
  have v12 : FVec Ideal S8192x40x254 .f32 := exp2 (subf v9 (broadcast S8192x40x254 (Scalar.ofBits .f32 0x42FC0000#32)))
  have v14 : FVec Ideal S8192x40x254 .f32 :=
    broadcastTo S8192x40x254 (shapeCast S8192x40x1 v7 shapeCasts_S8192x40_S8192x40x1) broadcasts_S8192x40x1_S8192x40x254
  have v17 : FVec Ideal S8192x40x254 .f32 :=
    select (cmpf .ole v12 v14) v12 (broadcast S8192x40x254 (Scalar.ofBits .f32 0x00000000#32))
  have v18 : FVec Ideal S8192x40 .f32 :=
    multiReduction .maximumf [2] S8192x40 v17 0xFF800000#32 reduces_S8192x40x254_S8192x40 (.inl rfl) rfl
  select (cmpf .oeq v7 (broadcast S8192x40 (Scalar.ofBits .f32 0x7F800000#32)))
    (broadcast S8192x40 (Scalar.ofBits .f32 0x7F800000#32)) v18

theorem power_apply (a : FVec Ideal S8192x40 .f32) (R : Fin 8192) (g : Fin 40) :
    power a (ix2 R g) = Spec.pow2 (a (ix2 R g) * Spec.inv448) := by
  pointwise [power]
  rw [ofBits_bot32]
  simp only [Spec.exp2_power, ofBits_top32]
  rfl

theorem pay9_eq (x : Vec Ideal S8192x5120 .bf16) : k0_pay9 x = power (k0_pay8 x) := rfl

theorem pay9_apply (x : Vec Ideal S8192x5120 .bf16) (R : Fin 8192) (g : Fin 40) :
    k0_pay9 x (ix2 R g) = Spec.pow2 (Spec.amax (Math.grp (row x R) g) * Spec.inv448) :=
  (congrFun (pay9_eq x) _).trans ((power_apply _ R g).trans (congrArg (fun a => Spec.pow2 (a * Spec.inv448)) (pay8_apply x R g)))

/-- The scales, over the greatest absolute values and the powers of two. -/
def scales (a b : FVec Ideal S8192x40 .f32) : FVec Ideal S8192x40 .f32 :=
  select (cmpf .oeq a (broadcast S8192x40 (Scalar.ofBits .f32 0x00000000#32)))
    (broadcast S8192x40 (Scalar.ofBits .f32 0x3F800000#32)) (mulf b (broadcast S8192x40 (Scalar.ofBits .f32 0x40000000#32)))

theorem scales_apply (a b : FVec Ideal S8192x40 .f32) (R : Fin 8192) (g : Fin 40) : scales a b (ix2 R g)
    = if a (ix2 R g) = 0 then 1 else b (ix2 R g) * Ideal.ofBits .f32 1073741824#32 := by
  pointwise [scales]

theorem pay11_eq (x : Vec Ideal S8192x5120 .bf16) : k0_pay11 x = scales (k0_pay8 x) (k0_pay9 x) := rfl

theorem pay11_apply (x : Vec Ideal S8192x5120 .bf16) (R : Fin 8192) (g : Fin 40) :
    k0_pay11 x (ix2 R g) = Math.tokScale (row x R) g :=
  (congrFun (pay11_eq x) _).trans ((scales_apply _ _ R g).trans
    (congrArg₂ (fun a b : EReal => if a = 0 then 1 else b * Ideal.ofBits .f32 1073741824#32) (pay8_apply x R g) (pay9_apply x R g)))

/-- The codes, over the entries, the greatest absolute values and the powers of two. -/
def codes (q : FVec Ideal S8192x40x128 .f32) (a b : FVec Ideal S8192x40 .f32) : FVec Ideal S8192x40x128 .fp8e4m3 :=
  have v32 : FVec Ideal S8192x40 .f32 := select (cmpf .oeq a (broadcast S8192x40 (Scalar.ofBits .f32 0x00000000#32)))
    (broadcast S8192x40 (Scalar.ofBits .f32 0x3F800000#32)) (divf (broadcast S8192x40 (Scalar.ofBits .f32 0x3F000000#32)) b)
  have v34 : FVec Ideal S8192x40x128 .f32 :=
    broadcastTo S8192x40x128 (shapeCast S8192x40x1 v32 shapeCasts_S8192x40_S8192x40x1) broadcasts_S8192x40x1_S8192x40x128
  truncf .fp8e4m3 (minimumf (broadcast S8192x40x128 (Scalar.ofBits .f32 0x43E00000#32))
    (maximumf (broadcast S8192x40x128 (Scalar.ofBits .f32 0xC3E00000#32)) (mulf q v34))) bitsLt_fp8e4m3_f32

theorem codes_apply (q : FVec Ideal S8192x40x128 .f32) (a b : FVec Ideal S8192x40 .f32) (R : Fin 8192) (g : Fin 40) (j : Fin 128) :
    codes q a b (ix3 R g j) = Spec.codeOf (if a (ix2 R g) = 0 then 1 else Ideal.div (Ideal.ofBits .f32 1056964608#32) (b (ix2 R g)))
      (q (ix3 R g j)) := by
  pointwise [codes]
  rfl

theorem pay12_eq (x : Vec Ideal S8192x5120 .bf16) : k0_pay12 x = codes (k0_pay7 x) (k0_pay8 x) (k0_pay9 x) := rfl

theorem pay12_apply (x : Vec Ideal S8192x5120 .bf16) (R : Fin 8192) (g : Fin 40) (j : Fin 128) :
    k0_pay12 x (ix3 R g j) = Spec.codeOf (Spec.invOf (Spec.amax (Math.grp (row x R) g))) (Math.grp (row x R) g j) :=
  (congrFun (pay12_eq x) _).trans ((codes_apply _ _ _ R g j).trans (congrArg₂ Spec.codeOf
    (congrArg₂ (fun a b : EReal => if a = 0 then 1 else Ideal.div (Ideal.ofBits .f32 1056964608#32) b) (pay8_apply x R g) (pay9_apply x R g))
    (pay7_apply x R g j)))

theorem pay6_of (q : FVec Ideal S8192x40x128 .fp8e4m3) (R : Fin 8192) (d : Fin 5120) :
    k0_pay6 q (ix2 R d) = q (ix3 R ⟨d.val / 128, by omega⟩ ⟨d.val % 128, Nat.mod_lt _ (by decide)⟩) := by
  pointwise [k0_pay6]

/-- The matrix product, its operands given. -/
theorem pay15_of (q : FVec Ideal S8192x40x128 .bf16) (s : FVec Ideal S8192x40x1 .bf16) (ws : Vec Ideal S5x40 .f32)
    (w : Vec Ideal S576x5120 .fp8e4m3) (R : Fin 8192) (o : Fin 576) : k0_pay15 q s ws w (ix2 R o)
      = ∑ d : Fin 5120, Math.wdeq (fun o d => w (ix2 o d)) (fun a b => ws (ix2 a b)) o d
          * (q (ix3 R ⟨d.val / 128, by omega⟩ ⟨d.val % 128, Nat.mod_lt _ (by decide)⟩) * s (ix3 R ⟨d.val / 128, by omega⟩ 0)) := by
  pointwise [k0_pay15]
  exact Finset.sum_congr rfl fun d _ => mul_comm _ _

theorem pay16_of (q : FVec Ideal S8192x40x128 .bf16) (s : FVec Ideal S8192x40x1 .bf16) (ws : Vec Ideal S5x40 .f32)
    (w : Vec Ideal S576x5120 .fp8e4m3) (R : Fin 8192) (j : Fin 64) :
    k0_pay5 (k0_pay16 q s ws w) (ix2 R j) = k0_pay15 q s ws w (ix2 R ⟨512 + j.val, by omega⟩) := by
  unfold k0_pay16
  generalize k0_pay15 q s ws w = y
  pointwise [k0_pay5]

end Cert.RefAt
-- ==== Proof.RefLat.lean ====
module
public import proofs.«01_k».proof.Proof.RefAt
@[expose] public section
set_option maxRecDepth 16384
noncomputable section
open Idealize.ShloMosaic Idealize.ShloMosaic.TcCoe Idealize.SL.Sem
/-!
# The reference's latent results at an index

The normalised latent vector, its scales and its codes, entry by entry.
-/
namespace Cert.RefLat
open Cert.ReferenceIdeal Cert.ReferenceIdeal.Gen Cert.RefAt

/-- Dividing by 512 is multiplying with its inverse. -/
theorem div_512 (a : EReal) : Ideal.div a (Ideal.ofBits .f32 1140850688#32) = a * Ideal.ofBits .f32 989855744#32 := by
  have h1 : Ideal.ofBits FTy.f32 1140850688#32 = ((512 : ℝ) : EReal) := by
    simp [Ideal.ofBits, Ideal.ieee, -EReal.coe_mul]; norm_num
  have h2 : Ideal.ofBits FTy.f32 989855744#32 = (((512 : ℝ)⁻¹ : ℝ) : EReal) := by
    simp [Ideal.ofBits, Ideal.ieee, -EReal.coe_mul]; norm_num
  rw [h1, h2, EReal.coe_inv]
  simp [Ideal.div]

/-- The products normalised and multiplied with the gain, in groups. -/
def normed (y : FVec Ideal S8192x576 .f32) (ga : Vec Ideal S1x512 .bf16) : FVec Ideal S8192x4x128 .f32 :=
  have v58 : FVec Ideal S8192x512 .f32 := extractStridedSlice S8192x512 ![0, 0] y slices_S8192x576_o0_0_S8192x512
  have v61 : FVec Ideal S8192 .f32 := multiReduction .add [1] S8192 (mulf v58 v58) 0x00000000#32 reduces_S8192x512_S8192 (.inl rfl) rfl
  have v64 : FVec Ideal S8192x1 .f32 :=
    divf (shapeCast S8192x1 v61 shapeCasts_S8192_S8192x1) (broadcast S8192x1 (Scalar.ofBits .f32 0x44000000#32))
  have v67 : FVec Ideal S8192x1 .f32 := rsqrt (addf v64 (broadcast S8192x1 (Scalar.ofBits .f32 0x358637BD#32)))
  have v69 : FVec Ideal S8192x512 .f32 := mulf v58 (broadcastTo S8192x512 v67 broadcasts_S8192x1_S8192x512)
  have v72 : FVec Ideal S1x512 .f32 := extf .f32 (shapeCast S1x512 ga shapeCasts_S1x512_S1x512 : FVec Ideal S1x512 .bf16) bitsLt_bf16_f32
  have v74 : FVec Ideal S8192x512 .f32 := mulf v69 (broadcastTo S8192x512 v72 broadcasts_S1x512_S8192x512)
  shapeCast S8192x4x128 v74 shapeCasts_S8192x512_S8192x4x128

theorem normed_apply (y : FVec Ideal S8192x576 .f32) (ga : Vec Ideal S1x512 .bf16) (R : Fin 8192) (g : Fin 4) (j : Fin 128) :
    normed y ga (ix3 R g j) = Math.lgrp (Math.latent (fun i => ga (ix2 0 i)) (fun o => y (ix2 R o))) g j := by
  have e : (⟨g.val * 128 + j.val, by omega⟩ : Fin 512) = ⟨128 * g.val + j.val, by omega⟩ := Fin.ext (by show g.val * 128 + j.val = 128 * g.val + j.val; omega)
  pointwise [normed]
  rw [div_512]
  unfold Math.lgrp Math.latent
  rw [← e]

theorem pay17_eq (q : FVec Ideal S8192x40x128 .bf16) (s : FVec Ideal S8192x40x1 .bf16) (ws : Vec Ideal S5x40 .f32)
    (w : Vec Ideal S576x5120 .fp8e4m3) (ga : Vec Ideal S1x512 .bf16) :
    k0_pay17 q s ws w ga = normed (k0_pay15 q s ws w) ga := rfl

/-- The groups' greatest absolute values. -/
def greatest (v : FVec Ideal S8192x4x128 .f32) : FVec Ideal S8192x4 .f32 :=
  multiReduction .maximumf [2] S8192x4 (absf v) 0xFF800000#32 reduces_S8192x4x128_S8192x4 (.inl rfl) rfl

theorem greatest_apply (v : FVec Ideal S8192x4x128 .f32) (R : Fin 8192) (g : Fin 4) :
    greatest v (ix2 R g) = Spec.amax fun j => v (ix3 R g j) := by
  pointwise [greatest]
  rw [ofBits_bot32]
  rfl

theorem pay18_eq (q : FVec Ideal S8192x40x128 .bf16) (s : FVec Ideal S8192x40x1 .bf16) (ws : Vec Ideal S5x40 .f32)
    (w : Vec Ideal S576x5120 .fp8e4m3) (ga : Vec Ideal S1x512 .bf16) :
    k0_pay18 q s ws w ga = greatest (k0_pay17 q s ws w ga) := rfl

/-- The greatest absolute values over 448. -/
def ratio (a : FVec Ideal S8192x4 .f32) : FVec Ideal S8192x4 .f32 := mulf a (broadcast S8192x4 (Scalar.ofBits .f32 0x3B124925#32))

theorem pay19_eq (q : FVec Ideal S8192x40x128 .bf16) (s : FVec Ideal S8192x40x1 .bf16) (ws : Vec Ideal S5x40 .f32)
    (w : Vec Ideal S576x5120 .fp8e4m3) (ga : Vec Ideal S1x512 .bf16) :
    k0_pay19 q s ws w ga = ratio (k0_pay18 q s ws w ga) := rfl

/-- The powers of two at most a number, the others zero. -/
def below (v : FVec Ideal S8192x4 .f32) : FVec Ideal S8192x4x254 .f32 :=
  have v81 : FVec Ideal S8192x4x254 .f32 := sitofp .f32 (iota .tc S8192x4x254 32 [2] iota_S8192x4x254_d2_w32)
  have v84 : FVec Ideal S8192x4x254 .f32 := exp2 (subf v81 (broadcast S8192x4x254 (Scalar.ofBits .f32 0x42FC0000#32)))
  have v86 : FVec Ideal S8192x4x254 .f32 :=
    broadcastTo S8192x4x254 (shapeCast S8192x4x1 v shapeCasts_S8192x4_S8192x4x1) broadcasts_S8192x4x1_S8192x4x254
  select (cmpf .ole v84 v86) v84 (broadcast S8192x4x254 (Scalar.ofBits .f32 0x00000000#32))

theorem pay20_eq (q : FVec Ideal S8192x40x128 .bf16) (s : FVec Ideal S8192x40x1 .bf16) (ws : Vec Ideal S5x40 .f32)
    (w : Vec Ideal S576x5120 .fp8e4m3) (ga : Vec Ideal S1x512 .bf16) :
    k0_pay20 q s ws w ga = below (k0_pay19 q s ws w ga) := rfl

/-- The power of two of a group. -/
theorem pay1_apply (a : FVec Ideal S8192x4 .f32) (R : Fin 8192) (g : Fin 4) :
    k0_pay1 (ratio a) (below (ratio a)) (ix2 R g) = Spec.pow2 (a (ix2 R g) * Spec.inv448) := by
  pointwise [k0_pay1, below, ratio]
  rw [ofBits_bot32]
  simp only [Spec.exp2_power, ofBits_top32]
  rfl

theorem pay3_of (a b : FVec Ideal S8192x4 .f32) (v : FVec Ideal S8192x4x254 .f32) (R : Fin 8192) (g : Fin 4) :
    k0_pay3 a b v (ix2 R g) = if a (ix2 R g) = 0 then 1 else k0_pay1 b v (ix2 R g) * Ideal.ofBits .f32 1073741824#32 := by
  pointwise [k0_pay3, k0_pay2, k0_pay1]

theorem pay4_of (u : FVec Ideal S8192x4x128 .f32) (a b : FVec Ideal S8192x4 .f32) (v : FVec Ideal S8192x4x254 .f32) (R : Fin 8192)
    (d : Fin 512) : k0_pay4 u a b v (ix2 R d)
      = Spec.codeOf (if a (ix2 R ⟨d.val / 128, by omega⟩) = 0 then 1
          else Ideal.div (Ideal.ofBits .f32 1056964608#32) (k0_pay1 b v (ix2 R ⟨d.val / 128, by omega⟩)))
        (u (ix3 R ⟨d.val / 128, by omega⟩ ⟨d.val % 128, Nat.mod_lt _ (by decide)⟩)) := by
  pointwise [k0_pay4, k0_pay2, k0_pay1]
  rfl

/-- A latent group's scale, over the latent vectors. -/
theorem scale_apply (u : FVec Ideal S8192x4x128 .f32) (f : Fin 512 → EReal) (R : Fin 8192) (g : Fin 4)
    (hu : ∀ j : Fin 128, u (ix3 R g j) = Math.lgrp f g j) :
    k0_pay3 (greatest u) (ratio (greatest u)) (below (ratio (greatest u))) (ix2 R g) = Math.latScale f g := by
  have hg : greatest u (ix2 R g) = Spec.amax (Math.lgrp f g) := (greatest_apply u R g).trans (congrArg Spec.amax (funext hu))
  refine (pay3_of _ _ _ R g).trans ?_
  exact congrArg₂ (fun a b : EReal => if a = 0 then 1 else b * Ideal.ofBits .f32 1073741824#32) hg
    ((pay1_apply _ R g).trans (congrArg (fun a => Spec.pow2 (a * Spec.inv448)) hg))

/-- A latent code, over the latent vectors. -/
theorem code_apply (u : FVec Ideal S8192x4x128 .f32) (f : Fin 512 → EReal) (R : Fin 8192) (d : Fin 512)
    (hu : ∀ (g : Fin 4) (j : Fin 128), u (ix3 R g j) = Math.lgrp f g j) :
    k0_pay4 u (greatest u) (ratio (greatest u)) (below (ratio (greatest u))) (ix2 R d) = Math.latCode f d := by
  have hg : greatest u (ix2 R (Math.lgrpOf d)) = Spec.amax (Math.lgrp f (Math.lgrpOf d)) :=
    (greatest_apply u R _).trans (congrArg Spec.amax (funext fun j => hu _ j))
  refine (pay4_of _ _ _ _ R d).trans ?_
  unfold Math.latCode
  refine congrArg₂ Spec.codeOf ?_ ((hu _ _).trans (congrArg f (Fin.ext (Nat.div_add_mod d.val 128))))
  exact congrArg₂ (fun a b : EReal => if a = 0 then 1 else Ideal.div (Ideal.ofBits .f32 1056964608#32) b) hg
    ((pay1_apply _ R _).trans (congrArg (fun a => Spec.pow2 (a * Spec.inv448)) hg))

end Cert.RefLat
-- ==== Proof.RefArrays.lean ====
module
public import proofs.«01_k».proof.Proof.RefLat
public import proofs.«01_k».proof.Proof.Result
public import Idealize.ShloMosaic.Lib.Pipeline.ValueKit
public import Idealize.ShloMosaic.Lib.Pipeline.ReadBack
public import Idealize.ShloMosaic.Lib.Claim
@[expose] public section
set_option maxRecDepth 16384
noncomputable section
open Idealize.ShloMosaic Idealize.ShloMosaic.TcCoe Idealize.SL.Sem
/-!
# The reference's five arrays

What the reference's run leaves in each of its five output arrays: the results of `Result`.
-/
namespace Cert.RefArrays
open Cert.ReferenceIdeal Cert.ReferenceIdeal.Gen Cert.RefAt Cert.RefLat

theorem ext_of (q : FVec Ideal S8192x40x128 .fp8e4m3) (i : S8192x40x128.Idx) :
    extf .bf16 q bitsLt_fp8e4m3_bf16 i = q i := rfl

theorem col_of (s : FVec Ideal S8192x40 .f32) (R : Fin 8192) (g : Fin 40) :
    shapeCast S8192x40x1 (truncf .bf16 s bitsLt_bf16_f32) shapeCasts_S8192x40_S8192x40x1 (ix3 R g 0) = s (ix2 R g) := by
  pointwise

theorem pay13_apply (x : Vec Ideal S8192x5120 .bf16) (R : Fin 8192) (d : Fin 5120) :
    k0_pay13 x (ix3 R ⟨d.val / 128, by omega⟩ ⟨d.val % 128, Nat.mod_lt _ (by decide)⟩) = Math.tokCode (row x R) d := by
  unfold k0_pay13
  refine (ext_of _ _).trans ((pay12_apply x R _ _).trans ?_)
  unfold Math.tokCode Math.grpOf
  refine congrArg _ (congrArg (row x R) (Fin.ext (Nat.div_add_mod d.val 128)))

theorem pay14_apply (x : Vec Ideal S8192x5120 .bf16) (R : Fin 8192) (g : Fin 40) :
    k0_pay14 x (ix3 R g 0) = Math.tokScale (row x R) g := by
  unfold k0_pay14
  exact (col_of _ R g).trans (pay11_apply x R g)

/-- The products. -/
theorem prod_apply (x : Vec Ideal S8192x5120 .bf16) (w : Vec Ideal S576x5120 .fp8e4m3) (ws : Vec Ideal S5x40 .f32) (R : Fin 8192)
    (o : Fin 576) : k0_pay15 (k0_pay13 x) (k0_pay14 x) ws w (ix2 R o) = Math.proj (Result.weight w ws) (row x R) o := by
  refine (pay15_of _ _ ws w R o).trans (Finset.sum_congr rfl fun d _ => ?_)
  refine congrArg₂ (fun a b : EReal => _ * (a * b)) (pay13_apply x R d) (pay14_apply x R _)

theorem normed_prod (x : Vec Ideal S8192x5120 .bf16) (w : Vec Ideal S576x5120 .fp8e4m3) (ws : Vec Ideal S5x40 .f32)
    (ga : Vec Ideal S1x512 .bf16) (R : Fin 8192) (g : Fin 4) (j : Fin 128) :
    normed (k0_pay15 (k0_pay13 x) (k0_pay14 x) ws w) ga (ix3 R g j)
      = Math.lgrp (Math.latent (fun i => ga (ix2 0 i)) (Math.proj (Result.weight w ws) (row x R))) g j :=
  (normed_apply _ ga R g j).trans (congrArg (fun y => Math.lgrp (Math.latent _ y) g j) (funext fun o => prod_apply x w ws R o))

/-- The codes of the latent vectors, all values of the body named. -/
theorem cc_apply (x : Vec Ideal S8192x5120 .bf16) (w : Vec Ideal S576x5120 .fp8e4m3) (ws : Vec Ideal S5x40 .f32)
    (ga : Vec Ideal S1x512 .bf16) (R : Fin 8192) (d : Fin 512) :
    k0_pay4 (k0_pay17 (k0_pay13 x) (k0_pay14 x) ws w ga) (k0_pay18 (k0_pay13 x) (k0_pay14 x) ws w ga)
        (k0_pay19 (k0_pay13 x) (k0_pay14 x) ws w ga) (k0_pay20 (k0_pay13 x) (k0_pay14 x) ws w ga) (ix2 R d)
      = Math.latCode (Math.latent (fun i => ga (ix2 0 i)) (Math.proj (Result.weight w ws) (row x R))) d := by
  rw [pay20_eq, pay19_eq, pay18_eq, pay17_eq]
  exact code_apply _ _ R d fun g j => normed_prod x w ws ga R g j

theorem cs_apply (x : Vec Ideal S8192x5120 .bf16) (w : Vec Ideal S576x5120 .fp8e4m3) (ws : Vec Ideal S5x40 .f32)
    (ga : Vec Ideal S1x512 .bf16) (R : Fin 8192) (g : Fin 4) :
    k0_pay3 (k0_pay18 (k0_pay13 x) (k0_pay14 x) ws w ga)
        (k0_pay19 (k0_pay13 x) (k0_pay14 x) ws w ga) (k0_pay20 (k0_pay13 x) (k0_pay14 x) ws w ga) (ix2 R g)
      = Math.latScale (Math.latent (fun i => ga (ix2 0 i)) (Math.proj (Result.weight w ws) (row x R))) g := by
  rw [pay20_eq, pay19_eq, pay18_eq, pay17_eq]
  exact scale_apply _ _ R g fun j => normed_prod x w ws ga R g j

theorem kpe_apply (x : Vec Ideal S8192x5120 .bf16) (w : Vec Ideal S576x5120 .fp8e4m3) (ws : Vec Ideal S5x40 .f32) (R : Fin 8192)
    (j : Fin 64) : k0_pay5 (k0_pay16 (k0_pay13 x) (k0_pay14 x) ws w) (ix2 R j)
      = Math.proj (Result.weight w ws) (row x R) ⟨512 + j.val, by omega⟩ :=
  (pay16_of _ _ ws w R j).trans (prod_apply x w ws R _)

theorem xc_apply (x : Vec Ideal S8192x5120 .bf16) (R : Fin 8192) (d : Fin 5120) :
    k0_pay6 (k0_pay12 x) (ix2 R d) = Math.tokCode (row x R) d := by
  refine (pay6_of _ R d).trans ((pay12_apply x R _ _).trans ?_)
  unfold Math.tokCode Math.grpOf
  refine congrArg _ (congrArg (row x R) (Fin.ext (Nat.div_add_mod d.val 128)))

variable (m : (ℓ : Loc nD τ sig) → Buf (Elt Ideal) ℓ)

abbrev X (c : Dev nD) : Vec Ideal S1x8192x5120 .bf16 := m ((c : Thread nD τ).loc main_arg0)
abbrev W (c : Dev nD) : Vec Ideal S576x5120 .fp8e4m3 := m ((c : Thread nD τ).loc main_arg1)
abbrev Ws (c : Dev nD) : Vec Ideal S5x40 .f32 := m ((c : Thread nD τ).loc main_arg2)
abbrev Ga (c : Dev nD) : Vec Ideal S512 .bf16 := m ((c : Thread nD τ).loc main_arg3)

theorem idx : ∀ t : Fin cfg0.N, win0_0.index t = ![0, 0] ∧ win0_1.index t = ![0, 0] ∧ win0_2.index t = ![0, 0]
    ∧ win0_3.index t = ![0, 0] :=
  (by decide +kernel : ∀ t : Fin grid0.N, win0_0.index t = ![0, 0] ∧ win0_1.index t = ![0, 0] ∧ win0_2.index t = ![0, 0]
    ∧ win0_3.index t = ![0, 0])

theorem blk0 (c : Dev nD) (t : Fin cfg0.N) (R : Fin 8192) : row (iblk m c 0 t) R = Result.token (X m c) R := by
  funext d
  unfold row Result.token
  blk_simp [iblk]
  entry_read
  pointwise
  blk_ext [idx t]

theorem blk1 (c : Dev nD) (t : Fin cfg0.N) : iblk m c 1 t = W m c := by
  funext y
  blk_ext [iblk, V, idx t]

theorem blk2 (c : Dev nD) (t : Fin cfg0.N) : iblk m c 2 t = Ws m c := by
  funext y
  blk_ext [iblk, V, idx t]

theorem blk3 (c : Dev nD) (t : Fin cfg0.N) : (fun i : Fin 512 => (iblk m c 3 t (ix2 0 i) : EReal)) = Result.gain (Ga m c) := by
  funext i
  unfold Result.gain
  blk_simp [iblk]
  entry_read
  pointwise
  blk_ext [idx t]

theorem final4 (c : Dev nD) : (dats m 0 c).arrAt 4 cfg0.N = Result.cc (X m c) (W m c) (Ws m c) (Ga m c) := by
  refine (dats m 0 c).arrAt_eq_of_after_last 4 t0_0 (by decide +kernel) _ fun j => ?_
  blk_simp
  rw [after0_4]
  unfold_out out0_4
  frame_out
  idx_vars j
  refine (cc_apply (iblk m c 0 t0_0) (iblk m c 1 t0_0) (iblk m c 2 t0_0) (iblk m c 3 t0_0) _ _).trans ?_
  rw [blk0, blk3, blk1, blk2]
  rfl

theorem final5 (c : Dev nD) : (dats m 0 c).arrAt 5 cfg0.N = Result.cs (X m c) (W m c) (Ws m c) (Ga m c) := by
  refine (dats m 0 c).arrAt_eq_of_after_last 5 t0_0 (by decide +kernel) _ fun j => ?_
  blk_simp
  rw [after0_5]
  unfold_out out0_5
  frame_out
  idx_vars j
  refine (cs_apply (iblk m c 0 t0_0) (iblk m c 1 t0_0) (iblk m c 2 t0_0) (iblk m c 3 t0_0) _ _).trans ?_
  rw [blk0, blk3, blk1, blk2]
  rfl

theorem final6 (c : Dev nD) : (dats m 0 c).arrAt 6 cfg0.N = Result.kpe (X m c) (W m c) (Ws m c) := by
  refine (dats m 0 c).arrAt_eq_of_after_last 6 t0_0 (by decide +kernel) _ fun j => ?_
  blk_simp
  rw [after0_6]
  unfold_out out0_6
  frame_out
  idx_vars j
  refine (kpe_apply (iblk m c 0 t0_0) (iblk m c 1 t0_0) (iblk m c 2 t0_0) _ _).trans ?_
  rw [blk0, blk1, blk2]
  rfl

theorem final7 (c : Dev nD) : (dats m 0 c).arrAt 7 cfg0.N = Result.xc (X m c) := by
  refine (dats m 0 c).arrAt_eq_of_after_last 7 t0_0 (by decide +kernel) _ fun j => ?_
  blk_simp
  rw [after0_7]
  unfold_out out0_7
  frame_out
  idx_vars j
  refine (xc_apply (iblk m c 0 t0_0) _ _).trans ?_
  rw [blk0]
  rfl

theorem final8 (c : Dev nD) : (dats m 0 c).arrAt 8 cfg0.N = Result.xs (X m c) := by
  refine (dats m 0 c).arrAt_eq_of_after_last 8 t0_0 (by decide +kernel) _ fun j => ?_
  blk_simp
  rw [after0_8]
  unfold_out out0_8
  frame_out
  idx_vars j
  refine (pay11_apply (iblk m c 0 t0_0) _ _).trans ?_
  rw [blk0]
  rfl

/-- The reference's run: the five results are in the five output arrays, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v2_0) = Result.cc (X m c) (W m c) (Ws m c) (Ga m c)
      ∧ r.2.mem ((c : Thread nD τ).loc main_v2_1) = Result.cs (X m c) (W m c) (Ws m c) (Ga m c)
      ∧ r.2.mem ((c : Thread nD τ).loc main_v2_2) = Result.kpe (X m c) (W m c) (Ws m c)
      ∧ r.2.mem ((c : Thread nD τ).loc main_v2_3) = Result.xc (X m c)
      ∧ r.2.mem ((c : Thread nD τ).loc main_v2_4) = Result.xs (X m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run_blocks m ρ)
  obtain ⟨h4, h5, h6, h7, h8, h⟩ := h c
  exact ⟨h4.trans (final4 m c), h5.trans (final5 m c), h6.trans (final6 m c), h7.trans (final7 m c), h8.trans (final8 m c), h⟩

end Cert.RefArrays
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Arrays
public import proofs.«01_k».proof.Proof.RefArrays
public import Idealize.ShloMosaic.Adequacy
public import Idealize.ShloMosaic.Init

@[expose] public section

noncomputable section

namespace Cert.Proof

open Idealize.ShloMosaic Idealize.SL.Sem Cert.Kernel

/-- The two runs end with the same five results. -/
theorem equal : algebraic_KernelIdeal_ReferenceIdeal (hKernelIdeal := Cert.KernelIdeal.Gen.facts)
    (hReferenceIdeal := Cert.ReferenceIdeal.Gen.facts) := by
  intro m g m' g' _ h
  refine ⟨_, _, _, _, _, Cert.Arrays.run m g, (θ_run _ _ _).mono (fun r hr c => ?_) (Cert.RefArrays.run m' g')⟩
  obtain ⟨h0, h1, h2, h3⟩ := h c
  have e0 : Cert.RefArrays.X m' c = Cert.Arrays.X m c := h0
  have e1 : Cert.RefArrays.W m' c = Cert.Arrays.W m c := h1
  have e2 : Cert.RefArrays.Ws m' c = Cert.Arrays.Ws m c := h2
  have e3 : Cert.RefArrays.Ga m' c = Cert.Arrays.Ga m c := h3
  have k := hr c
  rw [e0, e1, e2, e3] at k
  exact k

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, equal⟩

end Cert.Proof

end
